-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 128, 32, 32]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.KernelIdeal.nD Cert.KernelIdeal.τ).loc Cert.KernelIdeal.main_v55) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 128, 32, 32]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) i = 1#1 → r.2.mem ((c.tc : Thread Cert.ReferenceIdeal.nD Cert.ReferenceIdeal.τ).loc Cert.ReferenceIdeal.main_v249) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S2x128x32x32 : Shape := ⟨4, ![2, 128, 32, 32]⟩
abbrev S128 : Shape := ⟨1, ![128]⟩
abbrev S6x2 : Shape := ⟨2, ![6, 2]⟩
abbrev S6x1x3x3 : Shape := ⟨4, ![6, 1, 3, 3]⟩
abbrev S1x4x1x1 : Shape := ⟨4, ![1, 4, 1, 1]⟩
abbrev S128x128 : Shape := ⟨2, ![128, 128]⟩
abbrev S64x128 : Shape := ⟨2, ![64, 128]⟩
abbrev S64x1x3x3 : Shape := ⟨4, ![64, 1, 3, 3]⟩
abbrev S128x64 : Shape := ⟨2, ![128, 64]⟩
abbrev S_ : Shape := ⟨0, ![]⟩
abbrev S2x32x32 : Shape := ⟨3, ![2, 32, 32]⟩
abbrev S2x1x32x32 : Shape := ⟨4, ![2, 1, 32, 32]⟩
abbrev S1x128x1x1 : Shape := ⟨4, ![1, 128, 1, 1]⟩
abbrev S2x2x64x32x32 : Shape := ⟨5, ![2, 2, 64, 32, 32]⟩
abbrev S2x64x32x32x6 : Shape := ⟨5, ![2, 64, 32, 32, 6]⟩
abbrev S2x6x64x32x32 : Shape := ⟨5, ![2, 6, 64, 32, 32]⟩
abbrev S2x64x6x32x32 : Shape := ⟨5, ![2, 64, 6, 32, 32]⟩
abbrev S128x6x32x32 : Shape := ⟨4, ![128, 6, 32, 32]⟩
abbrev S128x6x34x34 : Shape := ⟨4, ![128, 6, 34, 34]⟩
abbrev S6x1x1x1 : Shape := ⟨4, ![6, 1, 1, 1]⟩
abbrev S6 : Shape := ⟨1, ![6]⟩
abbrev S1x6x1x1 : Shape := ⟨4, ![1, 6, 1, 1]⟩
abbrev S2x2x4x16x32x32 : Shape := ⟨6, ![2, 2, 4, 16, 32, 32]⟩
abbrev S2x4x16x32x32x2 : Shape := ⟨6, ![2, 4, 16, 32, 32, 2]⟩
abbrev S2x4x16x2048 : Shape := ⟨4, ![2, 4, 16, 2048]⟩
abbrev S2x4x16 : Shape := ⟨3, ![2, 4, 16]⟩
abbrev S2x4x16x1 : Shape := ⟨4, ![2, 4, 16, 1]⟩
abbrev S2x4x16x2048x1 : Shape := ⟨5, ![2, 4, 16, 2048, 1]⟩
abbrev S2x4x16x1x2048 : Shape := ⟨5, ![2, 4, 16, 1, 2048]⟩
abbrev S2x4x16x2048x2048 : Shape := ⟨5, ![2, 4, 16, 2048, 2048]⟩
abbrev S2x4x2048x2048 : Shape := ⟨4, ![2, 4, 2048, 2048]⟩
abbrev S2x4x2048x513 : Shape := ⟨4, ![2, 4, 2048, 513]⟩
abbrev S2x4x2048x1 : Shape := ⟨4, ![2, 4, 2048, 1]⟩
abbrev S2x4x2048 : Shape := ⟨3, ![2, 4, 2048]⟩
abbrev S2x4x32x32x2 : Shape := ⟨5, ![2, 4, 32, 32, 2]⟩
abbrev S2x34x34 : Shape := ⟨3, ![2, 34, 34]⟩

class Facts : Prop where
  reducesTo_S2x128x32x32_S2x32x32_d1 : S2x128x32x32.ReducesTo [1] S2x32x32
  h_S_ : 0 < S_.numel
  bcast_S2x32x32_S2x1x32x32_0_2_3 : S2x32x32.BroadcastsInDim S2x1x32x32 (![0, 2, 3] : Fin 3 → Fin S2x1x32x32.rank)
  bcast_S_S2x1x32x32 : S_.BroadcastsInDim S2x1x32x32 (![] : Fin 0 → Fin S2x1x32x32.rank)
  bcast_S2x1x32x32_S2x128x32x32_0_1_2_3 : S2x1x32x32.BroadcastsInDim S2x128x32x32 (![0, 1, 2, 3] : Fin 4 → Fin S2x128x32x32.rank)
  bcast_S128_S1x128x1x1_1 : S128.BroadcastsInDim S1x128x1x1 (![1] : Fin 1 → Fin S1x128x1x1.rank)
  bcast_S1x128x1x1_S2x128x32x32_0_1_2_3 : S1x128x1x1.BroadcastsInDim S2x128x32x32 (![0, 1, 2, 3] : Fin 4 → Fin S2x128x32x32.rank)
  shapeCasts_S2x128x32x32_S2x2x64x32x32 : S2x128x32x32.ShapeCasts S2x2x64x32x32
  transposes_S2x64x32x32x6_S2x6x64x32x32_0_4_1_2_3 : S2x64x32x32x6.Transposes [0, 4, 1, 2, 3] S2x6x64x32x32
  transposes_S2x6x64x32x32_S2x64x6x32x32_0_2_1_3_4 : S2x6x64x32x32.Transposes [0, 2, 1, 3, 4] S2x64x6x32x32
  shapeCasts_S2x64x6x32x32_S128x6x32x32 : S2x64x6x32x32.ShapeCasts S128x6x32x32
  pads_S128x6x32x32_S128x6x34x34_000_000_110_110 : S128x6x32x32.Pads (![0, 0, 1, 1] : Fin 4 → Nat) ![0, 0, 1, 1] ![0, 0, 0, 0] S128x6x34x34
  slices_S128x6x34x34_S128x6x32x32_0_0_0_0 : S128x6x34x34.Slices ![0, 0, 0, 0] S128x6x32x32
  slices_S6x1x3x3_S6x1x1x1_0_0_0_0 : S6x1x3x3.Slices ![0, 0, 0, 0] S6x1x1x1
  shapeCasts_S6x1x1x1_S6 : S6x1x1x1.ShapeCasts S6
  bcast_S6_S1x6x1x1_1 : S6.BroadcastsInDim S1x6x1x1 (![1] : Fin 1 → Fin S1x6x1x1.rank)
  bcast_S1x6x1x1_S128x6x32x32_0_1_2_3 : S1x6x1x1.BroadcastsInDim S128x6x32x32 (![0, 1, 2, 3] : Fin 4 → Fin S128x6x32x32.rank)
  slices_S128x6x34x34_S128x6x32x32_0_0_0_1 : S128x6x34x34.Slices ![0, 0, 0, 1] S128x6x32x32
  slices_S6x1x3x3_S6x1x1x1_0_0_0_1 : S6x1x3x3.Slices ![0, 0, 0, 1] S6x1x1x1
  slices_S128x6x34x34_S128x6x32x32_0_0_0_2 : S128x6x34x34.Slices ![0, 0, 0, 2] S128x6x32x32
  slices_S6x1x3x3_S6x1x1x1_0_0_0_2 : S6x1x3x3.Slices ![0, 0, 0, 2] S6x1x1x1
  slices_S128x6x34x34_S128x6x32x32_0_0_1_0 : S128x6x34x34.Slices ![0, 0, 1, 0] S128x6x32x32
  slices_S6x1x3x3_S6x1x1x1_0_0_1_0 : S6x1x3x3.Slices ![0, 0, 1, 0] S6x1x1x1
  slices_S128x6x34x34_S128x6x32x32_0_0_1_1 : S128x6x34x34.Slices ![0, 0, 1, 1] S128x6x32x32
  slices_S6x1x3x3_S6x1x1x1_0_0_1_1 : S6x1x3x3.Slices ![0, 0, 1, 1] S6x1x1x1
  slices_S128x6x34x34_S128x6x32x32_0_0_1_2 : S128x6x34x34.Slices ![0, 0, 1, 2] S128x6x32x32
  slices_S6x1x3x3_S6x1x1x1_0_0_1_2 : S6x1x3x3.Slices ![0, 0, 1, 2] S6x1x1x1
  slices_S128x6x34x34_S128x6x32x32_0_0_2_0 : S128x6x34x34.Slices ![0, 0, 2, 0] S128x6x32x32
  slices_S6x1x3x3_S6x1x1x1_0_0_2_0 : S6x1x3x3.Slices ![0, 0, 2, 0] S6x1x1x1
  slices_S128x6x34x34_S128x6x32x32_0_0_2_1 : S128x6x34x34.Slices ![0, 0, 2, 1] S128x6x32x32
  slices_S6x1x3x3_S6x1x1x1_0_0_2_1 : S6x1x3x3.Slices ![0, 0, 2, 1] S6x1x1x1
  slices_S128x6x34x34_S128x6x32x32_0_0_2_2 : S128x6x34x34.Slices ![0, 0, 2, 2] S128x6x32x32
  slices_S6x1x3x3_S6x1x1x1_0_0_2_2 : S6x1x3x3.Slices ![0, 0, 2, 2] S6x1x1x1
  shapeCasts_S128x6x32x32_S2x64x6x32x32 : S128x6x32x32.ShapeCasts S2x64x6x32x32
  transposes_S2x64x6x32x32_S2x6x64x32x32_0_2_1_3_4 : S2x64x6x32x32.Transposes [0, 2, 1, 3, 4] S2x6x64x32x32
  slices_S2x6x64x32x32_S2x2x64x32x32_0_0_0_0_0 : S2x6x64x32x32.Slices ![0, 0, 0, 0, 0] S2x2x64x32x32
  slices_S2x6x64x32x32_S2x2x64x32x32_0_2_0_0_0 : S2x6x64x32x32.Slices ![0, 2, 0, 0, 0] S2x2x64x32x32
  slices_S2x6x64x32x32_S2x2x64x32x32_0_4_0_0_0 : S2x6x64x32x32.Slices ![0, 4, 0, 0, 0] S2x2x64x32x32
  shapeCasts_S2x2x64x32x32_S2x2x4x16x32x32 : S2x2x64x32x32.ShapeCasts S2x2x4x16x32x32
  transposes_S2x2x4x16x32x32_S2x4x16x32x32x2_0_2_3_4_5_1 : S2x2x4x16x32x32.Transposes [0, 2, 3, 4, 5, 1] S2x4x16x32x32x2
  shapeCasts_S2x4x16x32x32x2_S2x4x16x2048 : S2x4x16x32x32x2.ShapeCasts S2x4x16x2048
  reducesTo_S2x4x16x2048_S2x4x16_d3 : S2x4x16x2048.ReducesTo [3] S2x4x16
  bcast_S2x4x16_S2x4x16x1_0_1_2 : S2x4x16.BroadcastsInDim S2x4x16x1 (![0, 1, 2] : Fin 3 → Fin S2x4x16x1.rank)
  bcast_S_S2x4x16x1 : S_.BroadcastsInDim S2x4x16x1 (![] : Fin 0 → Fin S2x4x16x1.rank)
  bcast_S2x4x16x1_S2x4x16x2048_0_1_2_3 : S2x4x16x1.BroadcastsInDim S2x4x16x2048 (![0, 1, 2, 3] : Fin 4 → Fin S2x4x16x2048.rank)
  bcast_S2x4x16x2048_S2x4x16x2048x1_0_1_2_3 : S2x4x16x2048.BroadcastsInDim S2x4x16x2048x1 (![0, 1, 2, 3] : Fin 4 → Fin S2x4x16x2048x1.rank)
  bcast_S2x4x16x2048_S2x4x16x1x2048_0_1_2_4 : S2x4x16x2048.BroadcastsInDim S2x4x16x1x2048 (![0, 1, 2, 4] : Fin 4 → Fin S2x4x16x1x2048.rank)
  bcast_S2x4x16x2048x1_S2x4x16x2048x2048_0_1_2_3_4 : S2x4x16x2048x1.BroadcastsInDim S2x4x16x2048x2048 (![0, 1, 2, 3, 4] : Fin 5 → Fin S2x4x16x2048x2048.rank)
  bcast_S2x4x16x1x2048_S2x4x16x2048x2048_0_1_2_3_4 : S2x4x16x1x2048.BroadcastsInDim S2x4x16x2048x2048 (![0, 1, 2, 3, 4] : Fin 5 → Fin S2x4x16x2048x2048.rank)
  reducesTo_S2x4x16x2048x2048_S2x4x2048x2048_d2 : S2x4x16x2048x2048.ReducesTo [2] S2x4x2048x2048
  bcast_S1x4x1x1_S2x4x2048x2048_0_1_2_3 : S1x4x1x1.BroadcastsInDim S2x4x2048x2048 (![0, 1, 2, 3] : Fin 4 → Fin S2x4x2048x2048.rank)
  sliceFits_S2x4x2048x2048_S2x4x2048x513 : S2x4x2048x2048.Slices (fun _ => 0) S2x4x2048x513
  slices_S2x4x2048x513_S2x4x2048x1_0_0_0_511 : S2x4x2048x513.Slices ![0, 0, 0, 511] S2x4x2048x1
  shapeCasts_S2x4x2048x1_S2x4x2048 : S2x4x2048x1.ShapeCasts S2x4x2048
  slices_S2x4x2048x513_S2x4x2048x1_0_0_0_512 : S2x4x2048x513.Slices ![0, 0, 0, 512] S2x4x2048x1
  bcast_S_S2x4x2048 : S_.BroadcastsInDim S2x4x2048 (![] : Fin 0 → Fin S2x4x2048.rank)
  reducesTo_S2x4x2048x2048_S2x4x2048_d3 : S2x4x2048x2048.ReducesTo [3] S2x4x2048
  shapeCasts_S2x4x2048_S2x4x32x32x2 : S2x4x2048.ShapeCasts S2x4x32x32x2
  bcast_S_S2x4x32x32x2 : S_.BroadcastsInDim S2x4x32x32x2 (![] : Fin 0 → Fin S2x4x32x32x2.rank)
  reducesTo_S2x4x32x32x2_S2x32x32_d1_4 : S2x4x32x32x2.ReducesTo [1, 4] S2x32x32
  pads_S2x32x32_S2x34x34_000_110_110 : S2x32x32.Pads (![0, 1, 1] : Fin 3 → Nat) ![0, 1, 1] ![0, 0, 0] S2x34x34
  slices_S2x34x34_S2x32x32_0_0_0 : S2x34x34.Slices ![0, 0, 0] S2x32x32
  slices_S2x34x34_S2x32x32_0_0_1 : S2x34x34.Slices ![0, 0, 1] S2x32x32
  slices_S2x34x34_S2x32x32_0_0_2 : S2x34x34.Slices ![0, 0, 2] S2x32x32
  slices_S2x34x34_S2x32x32_0_1_0 : S2x34x34.Slices ![0, 1, 0] S2x32x32
  slices_S2x34x34_S2x32x32_0_1_1 : S2x34x34.Slices ![0, 1, 1] S2x32x32
  slices_S2x34x34_S2x32x32_0_1_2 : S2x34x34.Slices ![0, 1, 2] S2x32x32
  slices_S2x34x34_S2x32x32_0_2_0 : S2x34x34.Slices ![0, 2, 0] S2x32x32
  slices_S2x34x34_S2x32x32_0_2_1 : S2x34x34.Slices ![0, 2, 1] S2x32x32
  slices_S2x34x34_S2x32x32_0_2_2 : S2x34x34.Slices ![0, 2, 2] S2x32x32
  bcast_S_S2x32x32 : S_.BroadcastsInDim S2x32x32 (![] : Fin 0 → Fin S2x32x32.rank)
  dot_S2x2x64x32x32_S6x2_S2x64x32x32x6_1_1_0234_0_n_n_wf : DotDims.WF S2x2x64x32x32 S6x2 S2x64x32x32x6 [1] [1] [0, 2, 3, 4] [0] [] []

variable [Facts]

def dot_S2x2x64x32x32_S6x2_S2x64x32x32x6_1_1_0234_0_n_n : DotDims S2x2x64x32x32 S6x2 S2x64x32x32x6 where
  lhsContracting := [1]
  rhsContracting := [1]
  lhsNonContracting := [0, 2, 3, 4]
  rhsNonContracting := [0]
  lhsBatch := []
  rhsBatch := []
  wf := dot_S2x2x64x32x32_S6x2_S2x64x32x32x6_1_1_0234_0_n_n_wf
def fn_pad {F : FTy → Type} [FloatOps F] (arg0 : FVec F S128x6x32x32 .f32) (arg1 : IVec S_ 32) : FVec F S128x6x34x34 .f32 :=
  let v0 : FVec F S_ .f32 := sitofp .f32 arg1
  let v1 : FVec F S128x6x34x34 .f32 := (fun x v => pad S128x6x34x34 ![0, 0, 1, 1] ![0, 0, 1, 1] ![0, 0, 0, 0] x v pads_S128x6x32x32_S128x6x34x34_000_000_110_110 h_S_) arg0 v0
  v1

def fn_norm {F : FTy → Type} [FloatOps F] (arg0 : FVec F S2x4x16x2048 .f32) : FVec F S2x4x16x1 .f32 :=
  let v0 : FVec F S2x4x16x2048 .f32 := mulf arg0 arg0
  let cst : FVec F S_ .f32 := constant S_ .f32 0x00000000#32
  let v1 : FVec F S2x4x16 .f32 := (fun x v => Host.reduceAdd x v reducesTo_S2x4x16x2048_S2x4x16_d3 h_S_) v0 cst
  let v2 : FVec F S2x4x16x1 .f32 := broadcastInDim S2x4x16x1 ![0, 1, 2] bcast_S2x4x16_S2x4x16x1_0_1_2 v1
  let v3 : FVec F S2x4x16x1 .f32 := Host.sqrt v2
  v3

def fn_where {F : FTy → Type} [FloatOps F] (arg0 : IVec S2x4x32x32x2 1) (arg1 : FVec F S_ .f32) (arg2 : FVec F S_ .f32) : FVec F S2x4x32x32x2 .f32 :=
  let v0 : FVec F S2x4x32x32x2 .f32 := broadcastInDim S2x4x32x32x2 ![] bcast_S_S2x4x32x32x2 arg1
  let v1 : FVec F S2x4x32x32x2 .f32 := broadcastInDim S2x4x32x32x2 ![] bcast_S_S2x4x32x32x2 arg2
  let v2 : FVec F S2x4x32x32x2 .f32 := select arg0 v0 v1
  v2

def fn_pad_0 {F : FTy → Type} [FloatOps F] (arg0 : FVec F S2x32x32 .f32) (arg1 : IVec S_ 32) : FVec F S2x34x34 .f32 :=
  let v0 : FVec F S_ .f32 := sitofp .f32 arg1
  let v1 : FVec F S2x34x34 .f32 := (fun x v => pad S2x34x34 ![0, 1, 1] ![0, 1, 1] ![0, 0, 0] x v pads_S2x32x32_S2x34x34_000_110_110 h_S_) arg0 v0
  v1

def fn_part7 {F : FTy → Type} [FloatOps F] (main_v139 : FVec F S2x34x34 .f32) (main_v148 : FVec F S2x32x32 .f32) (main_v149 : FVec F S2x32x32 .f32) : IVec S2x128x32x32 1 :=
  let main_v150 : FVec F S2x32x32 .f32 := addf main_v148 main_v149
  let main_v151 : FVec F S2x32x32 .f32 := (extractStridedSlice S2x32x32 ![0, 2, 0] · slices_S2x34x34_S2x32x32_0_2_0) main_v139
  let main_v152 : FVec F S2x32x32 .f32 := addf main_v150 main_v151
  let main_v153 : FVec F S2x32x32 .f32 := (extractStridedSlice S2x32x32 ![0, 2, 1] · slices_S2x34x34_S2x32x32_0_2_1) main_v139
  let main_v154 : FVec F S2x32x32 .f32 := addf main_v152 main_v153
  let main_v155 : FVec F S2x32x32 .f32 := (extractStridedSlice S2x32x32 ![0, 2, 2] · slices_S2x34x34_S2x32x32_0_2_2) main_v139
  let main_v156 : FVec F S2x32x32 .f32 := addf main_v154 main_v155
  let main_cst_14 : FVec F S_ .f32 := constant S_ .f32 0x00000000#32
  let main_v157 : FVec F S2x32x32 .f32 := broadcastInDim S2x32x32 ![] bcast_S_S2x32x32 main_cst_14
  let main_v158 : IVec S2x32x32 1 := cmpf .ole main_v156 main_v157
  let main_v159 : IVec S2x1x32x32 1 := broadcastInDim S2x1x32x32 ![0, 2, 3] bcast_S2x32x32_S2x1x32x32_0_2_3 main_v158
  let main_v160 : IVec S2x128x32x32 1 := broadcastInDim S2x128x32x32 ![0, 1, 2, 3] bcast_S2x1x32x32_S2x128x32x32_0_1_2_3 main_v159
  main_v160

def fn_part6 {F : FTy → Type} [FloatOps F] (main_v123 : FVec F S2x4x2048x2048 .f32) (main_v130 : FVec F S2x4x2048 .f32) (main_cst_8 : FVec F S_ .f32) : IVec S2x128x32x32 1 :=
  let main_v131 : FVec F S2x4x2048 .f32 := (fun x v => Host.reduce FloatOps.maximumf x v reducesTo_S2x4x2048x2048_S2x4x2048_d3 h_S_) main_v123 main_cst_8
  let main_cst_9 : FVec F S_ .f32 := constant S_ .f32 0x7F800000#32
  let main_v132 : FVec F S2x4x2048 .f32 := (fun x v => Host.reduce FloatOps.minimumf x v reducesTo_S2x4x2048x2048_S2x4x2048_d3 h_S_) main_v123 main_cst_9
  let main_v133 : FVec F S2x4x2048 .f32 := subf main_v131 main_v132
  let main_v134 : IVec S2x4x2048 1 := cmpf .ogt main_v130 main_v133
  let main_v135 : IVec S2x4x32x32x2 1 := shapeCast S2x4x32x32x2 main_v134 shapeCasts_S2x4x2048_S2x4x32x32x2
  let main_cst_10 : FVec F S_ .f32 := constant S_ .f32 0x00000000#32
  let main_cst_11 : FVec F S_ .f32 := constant S_ .f32 0x3F800000#32
  let main_v136 : FVec F S2x4x32x32x2 .f32 := fn_where (F := F) main_v135 main_cst_10 main_cst_11
  let main_v137 : FVec F S2x4x32x32x2 .f32 := id main_v136
  let main_cst_12 : FVec F S_ .f32 := constant S_ .f32 0x00000000#32
  let main_v138 : FVec F S2x32x32 .f32 := (fun x v => Host.reduceAdd x v reducesTo_S2x4x32x32x2_S2x32x32_d1_4 h_S_) main_v137 main_cst_12
  let main_c_13 : IVec S_ 32 := constantI S_ 32 0#32
  let main_v139 : FVec F S2x34x34 .f32 := fn_pad_0 (F := F) main_v138 main_c_13
  let main_v140 : FVec F S2x32x32 .f32 := (extractStridedSlice S2x32x32 ![0, 0, 0] · slices_S2x34x34_S2x32x32_0_0_0) main_v139
  let main_v141 : FVec F S2x32x32 .f32 := (extractStridedSlice S2x32x32 ![0, 0, 1] · slices_S2x34x34_S2x32x32_0_0_1) main_v139
  let main_v142 : FVec F S2x32x32 .f32 := addf main_v140 main_v141
  let main_v143 : FVec F S2x32x32 .f32 := (extractStridedSlice S2x32x32 ![0, 0, 2] · slices_S2x34x34_S2x32x32_0_0_2) main_v139
  let main_v144 : FVec F S2x32x32 .f32 := addf main_v142 main_v143
  let main_v145 : FVec F S2x32x32 .f32 := (extractStridedSlice S2x32x32 ![0, 1, 0] · slices_S2x34x34_S2x32x32_0_1_0) main_v139
  let main_v146 : FVec F S2x32x32 .f32 := addf main_v144 main_v145
  let main_v147 : FVec F S2x32x32 .f32 := (extractStridedSlice S2x32x32 ![0, 1, 1] · slices_S2x34x34_S2x32x32_0_1_1) main_v139
  let main_v148 : FVec F S2x32x32 .f32 := addf main_v146 main_v147
  let main_v149 : FVec F S2x32x32 .f32 := (extractStridedSlice S2x32x32 ![0, 1, 2] · slices_S2x34x34_S2x32x32_0_1_2) main_v139
  fn_part7 (F := F) main_v139 main_v148 main_v149

def fn_part5 {F : FTy → Type} [FloatOps F] (main_arg5 : FVec F S1x4x1x1 .f32) (main_v102 : FVec F S2x4x16x2048 .f32) (main_v110 : FVec F S2x4x16x2048 .f32) (main_v111 : FVec F S2x4x16x1 .f32) (main_cst_5 : FVec F S_ .f32) : IVec S2x128x32x32 1 :=
  let main_v112 : FVec F S2x4x16x1 .f32 := broadcastInDim S2x4x16x1 ![] bcast_S_S2x4x16x1 main_cst_5
  let main_v113 : FVec F S2x4x16x1 .f32 := maximumf main_v111 main_v112
  let main_v114 : FVec F S2x4x16x2048 .f32 := broadcastInDim S2x4x16x2048 ![0, 1, 2, 3] bcast_S2x4x16x1_S2x4x16x2048_0_1_2_3 main_v113
  let main_v115 : FVec F S2x4x16x2048 .f32 := Host.divf main_v102 main_v114
  let main_v116 : FVec F S2x4x16x2048x1 .f32 := broadcastInDim S2x4x16x2048x1 ![0, 1, 2, 3] bcast_S2x4x16x2048_S2x4x16x2048x1_0_1_2_3 main_v110
  let main_v117 : FVec F S2x4x16x1x2048 .f32 := broadcastInDim S2x4x16x1x2048 ![0, 1, 2, 4] bcast_S2x4x16x2048_S2x4x16x1x2048_0_1_2_4 main_v115
  let main_v118 : FVec F S2x4x16x2048x2048 .f32 := broadcastInDim S2x4x16x2048x2048 ![0, 1, 2, 3, 4] bcast_S2x4x16x2048x1_S2x4x16x2048x2048_0_1_2_3_4 main_v116
  let main_v119 : FVec F S2x4x16x2048x2048 .f32 := broadcastInDim S2x4x16x2048x2048 ![0, 1, 2, 3, 4] bcast_S2x4x16x1x2048_S2x4x16x2048x2048_0_1_2_3_4 main_v117
  let main_v120 : FVec F S2x4x16x2048x2048 .f32 := mulf main_v118 main_v119
  let main_cst_6 : FVec F S_ .f32 := constant S_ .f32 0x00000000#32
  let main_v121 : FVec F S2x4x2048x2048 .f32 := (fun x v => Host.reduceAdd x v reducesTo_S2x4x16x2048x2048_S2x4x2048x2048_d2 h_S_) main_v120 main_cst_6
  let main_v122 : FVec F S2x4x2048x2048 .f32 := broadcastInDim S2x4x2048x2048 ![0, 1, 2, 3] bcast_S1x4x1x1_S2x4x2048x2048_0_1_2_3 main_arg5
  let main_v123 : FVec F S2x4x2048x2048 .f32 := mulf main_v121 main_v122
  let main_values : FVec F S2x4x2048x513 .f32 := (fun x => (Host.topK S2x4x2048x513 3 (FloatOps.cmpfTotal .gt) x sliceFits_S2x4x2048x2048_S2x4x2048x513).1) main_v123
  let main_indices : IVec S2x4x2048x513 32 := (fun x => (Host.topK S2x4x2048x513 3 (FloatOps.cmpfTotal .gt) x sliceFits_S2x4x2048x2048_S2x4x2048x513).2) main_v123
  let main_v124 : FVec F S2x4x2048x1 .f32 := (extractStridedSlice S2x4x2048x1 ![0, 0, 0, 511] · slices_S2x4x2048x513_S2x4x2048x1_0_0_0_511) main_values
  let main_v125 : FVec F S2x4x2048 .f32 := shapeCast S2x4x2048 main_v124 shapeCasts_S2x4x2048x1_S2x4x2048
  let main_v126 : FVec F S2x4x2048x1 .f32 := (extractStridedSlice S2x4x2048x1 ![0, 0, 0, 512] · slices_S2x4x2048x513_S2x4x2048x1_0_0_0_512) main_values
  let main_v127 : FVec F S2x4x2048 .f32 := shapeCast S2x4x2048 main_v126 shapeCasts_S2x4x2048x1_S2x4x2048
  let main_v128 : FVec F S2x4x2048 .f32 := subf main_v125 main_v127
  let main_cst_7 : FVec F S_ .f32 := constant S_ .f32 0x4A800000#32
  let main_v129 : FVec F S2x4x2048 .f32 := broadcastInDim S2x4x2048 ![] bcast_S_S2x4x2048 main_cst_7
  let main_v130 : FVec F S2x4x2048 .f32 := mulf main_v128 main_v129
  let main_cst_8 : FVec F S_ .f32 := constant S_ .f32 0xFF800000#32
  fn_part6 (F := F) main_v123 main_v130 main_cst_8

def fn_part4 {F : FTy → Type} [FloatOps F] (main_arg5 : FVec F S1x4x1x1 .f32) (main_v84 : FVec F S128x6x32x32 .f32) (main_v85 : FVec F S128x6x32x32 .f32) (main_v89 : FVec F S128x6x32x32 .f32) : IVec S2x128x32x32 1 :=
  let main_v90 : FVec F S128x6x32x32 .f32 := mulf main_v85 main_v89
  let main_v91 : FVec F S128x6x32x32 .f32 := addf main_v84 main_v90
  let main_v92 : FVec F S2x64x6x32x32 .f32 := shapeCast S2x64x6x32x32 main_v91 shapeCasts_S128x6x32x32_S2x64x6x32x32
  let main_v93 : FVec F S2x6x64x32x32 .f32 := (transpose S2x6x64x32x32 [0, 2, 1, 3, 4] · transposes_S2x64x6x32x32_S2x6x64x32x32_0_2_1_3_4) main_v92
  let main_v94 : FVec F S2x2x64x32x32 .f32 := (extractStridedSlice S2x2x64x32x32 ![0, 0, 0, 0, 0] · slices_S2x6x64x32x32_S2x2x64x32x32_0_0_0_0_0) main_v93
  let main_v95 : FVec F S2x2x64x32x32 .f32 := (extractStridedSlice S2x2x64x32x32 ![0, 2, 0, 0, 0] · slices_S2x6x64x32x32_S2x2x64x32x32_0_2_0_0_0) main_v93
  let main_v96 : FVec F S2x2x64x32x32 .f32 := (extractStridedSlice S2x2x64x32x32 ![0, 4, 0, 0, 0] · slices_S2x6x64x32x32_S2x2x64x32x32_0_4_0_0_0) main_v93
  let main_v97 : FVec F S2x2x4x16x32x32 .f32 := shapeCast S2x2x4x16x32x32 main_v94 shapeCasts_S2x2x64x32x32_S2x2x4x16x32x32
  let main_v98 : FVec F S2x4x16x32x32x2 .f32 := (transpose S2x4x16x32x32x2 [0, 2, 3, 4, 5, 1] · transposes_S2x2x4x16x32x32_S2x4x16x32x32x2_0_2_3_4_5_1) main_v97
  let main_v99 : FVec F S2x4x16x2048 .f32 := shapeCast S2x4x16x2048 main_v98 shapeCasts_S2x4x16x32x32x2_S2x4x16x2048
  let main_v100 : FVec F S2x2x4x16x32x32 .f32 := shapeCast S2x2x4x16x32x32 main_v95 shapeCasts_S2x2x64x32x32_S2x2x4x16x32x32
  let main_v101 : FVec F S2x4x16x32x32x2 .f32 := (transpose S2x4x16x32x32x2 [0, 2, 3, 4, 5, 1] · transposes_S2x2x4x16x32x32_S2x4x16x32x32x2_0_2_3_4_5_1) main_v100
  let main_v102 : FVec F S2x4x16x2048 .f32 := shapeCast S2x4x16x2048 main_v101 shapeCasts_S2x4x16x32x32x2_S2x4x16x2048
  let main_v103 : FVec F S2x2x4x16x32x32 .f32 := shapeCast S2x2x4x16x32x32 main_v96 shapeCasts_S2x2x64x32x32_S2x2x4x16x32x32
  let main_v104 : FVec F S2x4x16x32x32x2 .f32 := (transpose S2x4x16x32x32x2 [0, 2, 3, 4, 5, 1] · transposes_S2x2x4x16x32x32_S2x4x16x32x32x2_0_2_3_4_5_1) main_v103
  let main_v105 : FVec F S2x4x16x2048 .f32 := shapeCast S2x4x16x2048 main_v104 shapeCasts_S2x4x16x32x32x2_S2x4x16x2048
  let main_v106 : FVec F S2x4x16x1 .f32 := fn_norm (F := F) main_v99
  let main_cst_4 : FVec F S_ .f32 := constant S_ .f32 0x2B8CBCCC#32
  let main_v107 : FVec F S2x4x16x1 .f32 := broadcastInDim S2x4x16x1 ![] bcast_S_S2x4x16x1 main_cst_4
  let main_v108 : FVec F S2x4x16x1 .f32 := maximumf main_v106 main_v107
  let main_v109 : FVec F S2x4x16x2048 .f32 := broadcastInDim S2x4x16x2048 ![0, 1, 2, 3] bcast_S2x4x16x1_S2x4x16x2048_0_1_2_3 main_v108
  let main_v110 : FVec F S2x4x16x2048 .f32 := Host.divf main_v99 main_v109
  let main_v111 : FVec F S2x4x16x1 .f32 := fn_norm (F := F) main_v102
  let main_cst_5 : FVec F S_ .f32 := constant S_ .f32 0x2B8CBCCC#32
  fn_part5 (F := F) main_arg5 main_v102 main_v110 main_v111 main_cst_5

def fn_part3 {F : FTy → Type} [FloatOps F] (main_arg4 : FVec F S6x1x3x3 .f32) (main_arg5 : FVec F S1x4x1x1 .f32) (main_v29 : FVec F S128x6x34x34 .f32) (main_v63 : FVec F S128x6x32x32 .f32) (main_v64 : FVec F S128x6x32x32 .f32) (main_v65 : FVec F S6x1x1x1 .f32) : IVec S2x128x32x32 1 :=
  let main_v66 : FVec F S6 .f32 := shapeCast S6 main_v65 shapeCasts_S6x1x1x1_S6
  let main_v67 : FVec F S1x6x1x1 .f32 := broadcastInDim S1x6x1x1 ![1] bcast_S6_S1x6x1x1_1 main_v66
  let main_v68 : FVec F S128x6x32x32 .f32 := broadcastInDim S128x6x32x32 ![0, 1, 2, 3] bcast_S1x6x1x1_S128x6x32x32_0_1_2_3 main_v67
  let main_v69 : FVec F S128x6x32x32 .f32 := mulf main_v64 main_v68
  let main_v70 : FVec F S128x6x32x32 .f32 := addf main_v63 main_v69
  let main_v71 : FVec F S128x6x32x32 .f32 := (extractStridedSlice S128x6x32x32 ![0, 0, 2, 0] · slices_S128x6x34x34_S128x6x32x32_0_0_2_0) main_v29
  let main_v72 : FVec F S6x1x1x1 .f32 := (extractStridedSlice S6x1x1x1 ![0, 0, 2, 0] · slices_S6x1x3x3_S6x1x1x1_0_0_2_0) main_arg4
  let main_v73 : FVec F S6 .f32 := shapeCast S6 main_v72 shapeCasts_S6x1x1x1_S6
  let main_v74 : FVec F S1x6x1x1 .f32 := broadcastInDim S1x6x1x1 ![1] bcast_S6_S1x6x1x1_1 main_v73
  let main_v75 : FVec F S128x6x32x32 .f32 := broadcastInDim S128x6x32x32 ![0, 1, 2, 3] bcast_S1x6x1x1_S128x6x32x32_0_1_2_3 main_v74
  let main_v76 : FVec F S128x6x32x32 .f32 := mulf main_v71 main_v75
  let main_v77 : FVec F S128x6x32x32 .f32 := addf main_v70 main_v76
  let main_v78 : FVec F S128x6x32x32 .f32 := (extractStridedSlice S128x6x32x32 ![0, 0, 2, 1] · slices_S128x6x34x34_S128x6x32x32_0_0_2_1) main_v29
  let main_v79 : FVec F S6x1x1x1 .f32 := (extractStridedSlice S6x1x1x1 ![0, 0, 2, 1] · slices_S6x1x3x3_S6x1x1x1_0_0_2_1) main_arg4
  let main_v80 : FVec F S6 .f32 := shapeCast S6 main_v79 shapeCasts_S6x1x1x1_S6
  let main_v81 : FVec F S1x6x1x1 .f32 := broadcastInDim S1x6x1x1 ![1] bcast_S6_S1x6x1x1_1 main_v80
  let main_v82 : FVec F S128x6x32x32 .f32 := broadcastInDim S128x6x32x32 ![0, 1, 2, 3] bcast_S1x6x1x1_S128x6x32x32_0_1_2_3 main_v81
  let main_v83 : FVec F S128x6x32x32 .f32 := mulf main_v78 main_v82
  let main_v84 : FVec F S128x6x32x32 .f32 := addf main_v77 main_v83
  let main_v85 : FVec F S128x6x32x32 .f32 := (extractStridedSlice S128x6x32x32 ![0, 0, 2, 2] · slices_S128x6x34x34_S128x6x32x32_0_0_2_2) main_v29
  let main_v86 : FVec F S6x1x1x1 .f32 := (extractStridedSlice S6x1x1x1 ![0, 0, 2, 2] · slices_S6x1x3x3_S6x1x1x1_0_0_2_2) main_arg4
  let main_v87 : FVec F S6 .f32 := shapeCast S6 main_v86 shapeCasts_S6x1x1x1_S6
  let main_v88 : FVec F S1x6x1x1 .f32 := broadcastInDim S1x6x1x1 ![1] bcast_S6_S1x6x1x1_1 main_v87
  let main_v89 : FVec F S128x6x32x32 .f32 := broadcastInDim S128x6x32x32 ![0, 1, 2, 3] bcast_S1x6x1x1_S128x6x32x32_0_1_2_3 main_v88
  fn_part4 (F := F) main_arg5 main_v84 main_v85 main_v89

def fn_part2 {F : FTy → Type} [FloatOps F] (main_arg4 : FVec F S6x1x3x3 .f32) (main_arg5 : FVec F S1x4x1x1 .f32) (main_v29 : FVec F S128x6x34x34 .f32) (main_v35 : FVec F S128x6x32x32 .f32) (main_v41 : FVec F S128x6x32x32 .f32) : IVec S2x128x32x32 1 :=
  let main_v42 : FVec F S128x6x32x32 .f32 := addf main_v35 main_v41
  let main_v43 : FVec F S128x6x32x32 .f32 := (extractStridedSlice S128x6x32x32 ![0, 0, 0, 2] · slices_S128x6x34x34_S128x6x32x32_0_0_0_2) main_v29
  let main_v44 : FVec F S6x1x1x1 .f32 := (extractStridedSlice S6x1x1x1 ![0, 0, 0, 2] · slices_S6x1x3x3_S6x1x1x1_0_0_0_2) main_arg4
  let main_v45 : FVec F S6 .f32 := shapeCast S6 main_v44 shapeCasts_S6x1x1x1_S6
  let main_v46 : FVec F S1x6x1x1 .f32 := broadcastInDim S1x6x1x1 ![1] bcast_S6_S1x6x1x1_1 main_v45
  let main_v47 : FVec F S128x6x32x32 .f32 := broadcastInDim S128x6x32x32 ![0, 1, 2, 3] bcast_S1x6x1x1_S128x6x32x32_0_1_2_3 main_v46
  let main_v48 : FVec F S128x6x32x32 .f32 := mulf main_v43 main_v47
  let main_v49 : FVec F S128x6x32x32 .f32 := addf main_v42 main_v48
  let main_v50 : FVec F S128x6x32x32 .f32 := (extractStridedSlice S128x6x32x32 ![0, 0, 1, 0] · slices_S128x6x34x34_S128x6x32x32_0_0_1_0) main_v29
  let main_v51 : FVec F S6x1x1x1 .f32 := (extractStridedSlice S6x1x1x1 ![0, 0, 1, 0] · slices_S6x1x3x3_S6x1x1x1_0_0_1_0) main_arg4
  let main_v52 : FVec F S6 .f32 := shapeCast S6 main_v51 shapeCasts_S6x1x1x1_S6
  let main_v53 : FVec F S1x6x1x1 .f32 := broadcastInDim S1x6x1x1 ![1] bcast_S6_S1x6x1x1_1 main_v52
  let main_v54 : FVec F S128x6x32x32 .f32 := broadcastInDim S128x6x32x32 ![0, 1, 2, 3] bcast_S1x6x1x1_S128x6x32x32_0_1_2_3 main_v53
  let main_v55 : FVec F S128x6x32x32 .f32 := mulf main_v50 main_v54
  let main_v56 : FVec F S128x6x32x32 .f32 := addf main_v49 main_v55
  let main_v57 : FVec F S128x6x32x32 .f32 := (extractStridedSlice S128x6x32x32 ![0, 0, 1, 1] · slices_S128x6x34x34_S128x6x32x32_0_0_1_1) main_v29
  let main_v58 : FVec F S6x1x1x1 .f32 := (extractStridedSlice S6x1x1x1 ![0, 0, 1, 1] · slices_S6x1x3x3_S6x1x1x1_0_0_1_1) main_arg4
  let main_v59 : FVec F S6 .f32 := shapeCast S6 main_v58 shapeCasts_S6x1x1x1_S6
  let main_v60 : FVec F S1x6x1x1 .f32 := broadcastInDim S1x6x1x1 ![1] bcast_S6_S1x6x1x1_1 main_v59
  let main_v61 : FVec F S128x6x32x32 .f32 := broadcastInDim S128x6x32x32 ![0, 1, 2, 3] bcast_S1x6x1x1_S128x6x32x32_0_1_2_3 main_v60
  let main_v62 : FVec F S128x6x32x32 .f32 := mulf main_v57 main_v61
  let main_v63 : FVec F S128x6x32x32 .f32 := addf main_v56 main_v62
  let main_v64 : FVec F S128x6x32x32 .f32 := (extractStridedSlice S128x6x32x32 ![0, 0, 1, 2] · slices_S128x6x34x34_S128x6x32x32_0_0_1_2) main_v29
  let main_v65 : FVec F S6x1x1x1 .f32 := (extractStridedSlice S6x1x1x1 ![0, 0, 1, 2] · slices_S6x1x3x3_S6x1x1x1_0_0_1_2) main_arg4
  fn_part3 (F := F) main_arg4 main_arg5 main_v29 main_v63 main_v64 main_v65

def fn_part1 {F : FTy → Type} [FloatOps F] (main_arg2 : FVec F S128 .f32) (main_arg3 : FVec F S6x2 .f32) (main_arg4 : FVec F S6x1x3x3 .f32) (main_arg5 : FVec F S1x4x1x1 .f32) (main_v17 : FVec F S2x128x32x32 .f32) (main_v18 : FVec F S1x128x1x1 .f32) : IVec S2x128x32x32 1 :=
  let main_v19 : FVec F S2x128x32x32 .f32 := broadcastInDim S2x128x32x32 ![0, 1, 2, 3] bcast_S1x128x1x1_S2x128x32x32_0_1_2_3 main_v18
  let main_v20 : FVec F S2x128x32x32 .f32 := mulf main_v17 main_v19
  let main_v21 : FVec F S1x128x1x1 .f32 := broadcastInDim S1x128x1x1 ![1] bcast_S128_S1x128x1x1_1 main_arg2
  let main_v22 : FVec F S2x128x32x32 .f32 := broadcastInDim S2x128x32x32 ![0, 1, 2, 3] bcast_S1x128x1x1_S2x128x32x32_0_1_2_3 main_v21
  let main_v23 : FVec F S2x128x32x32 .f32 := addf main_v20 main_v22
  let main_v24 : FVec F S2x2x64x32x32 .f32 := shapeCast S2x2x64x32x32 main_v23 shapeCasts_S2x128x32x32_S2x2x64x32x32
  let main_v25 : FVec F S2x64x32x32x6 .f32 := (fun l r => Host.dotGeneral dot_S2x2x64x32x32_S6x2_S2x64x32x32x6_1_1_0234_0_n_n none l r) main_v24 main_arg3
  let main_v26 : FVec F S2x6x64x32x32 .f32 := (transpose S2x6x64x32x32 [0, 4, 1, 2, 3] · transposes_S2x64x32x32x6_S2x6x64x32x32_0_4_1_2_3) main_v25
  let main_v27 : FVec F S2x64x6x32x32 .f32 := (transpose S2x64x6x32x32 [0, 2, 1, 3, 4] · transposes_S2x6x64x32x32_S2x64x6x32x32_0_2_1_3_4) main_v26
  let main_v28 : FVec F S128x6x32x32 .f32 := shapeCast S128x6x32x32 main_v27 shapeCasts_S2x64x6x32x32_S128x6x32x32
  let main_c : IVec S_ 32 := constantI S_ 32 0#32
  let main_v29 : FVec F S128x6x34x34 .f32 := fn_pad (F := F) main_v28 main_c
  let main_v30 : FVec F S128x6x32x32 .f32 := (extractStridedSlice S128x6x32x32 ![0, 0, 0, 0] · slices_S128x6x34x34_S128x6x32x32_0_0_0_0) main_v29
  let main_v31 : FVec F S6x1x1x1 .f32 := (extractStridedSlice S6x1x1x1 ![0, 0, 0, 0] · slices_S6x1x3x3_S6x1x1x1_0_0_0_0) main_arg4
  let main_v32 : FVec F S6 .f32 := shapeCast S6 main_v31 shapeCasts_S6x1x1x1_S6
  let main_v33 : FVec F S1x6x1x1 .f32 := broadcastInDim S1x6x1x1 ![1] bcast_S6_S1x6x1x1_1 main_v32
  let main_v34 : FVec F S128x6x32x32 .f32 := broadcastInDim S128x6x32x32 ![0, 1, 2, 3] bcast_S1x6x1x1_S128x6x32x32_0_1_2_3 main_v33
  let main_v35 : FVec F S128x6x32x32 .f32 := mulf main_v30 main_v34
  let main_v36 : FVec F S128x6x32x32 .f32 := (extractStridedSlice S128x6x32x32 ![0, 0, 0, 1] · slices_S128x6x34x34_S128x6x32x32_0_0_0_1) main_v29
  let main_v37 : FVec F S6x1x1x1 .f32 := (extractStridedSlice S6x1x1x1 ![0, 0, 0, 1] · slices_S6x1x3x3_S6x1x1x1_0_0_0_1) main_arg4
  let main_v38 : FVec F S6 .f32 := shapeCast S6 main_v37 shapeCasts_S6x1x1x1_S6
  let main_v39 : FVec F S1x6x1x1 .f32 := broadcastInDim S1x6x1x1 ![1] bcast_S6_S1x6x1x1_1 main_v38
  let main_v40 : FVec F S128x6x32x32 .f32 := broadcastInDim S128x6x32x32 ![0, 1, 2, 3] bcast_S1x6x1x1_S128x6x32x32_0_1_2_3 main_v39
  let main_v41 : FVec F S128x6x32x32 .f32 := mulf main_v36 main_v40
  fn_part2 (F := F) main_arg4 main_arg5 main_v29 main_v35 main_v41

def fn {F : FTy → Type} [FloatOps F] (main_arg0 : FVec F S2x128x32x32 .f32) (main_arg1 : FVec F S128 .f32) (main_arg2 : FVec F S128 .f32) (main_arg3 : FVec F S6x2 .f32) (main_arg4 : FVec F S6x1x3x3 .f32) (main_arg5 : FVec F S1x4x1x1 .f32) (main_arg6 : FVec F S128x128 .f32) (main_arg7 : FVec F S128 .f32) (main_arg8 : FVec F S128 .f32) (main_arg9 : FVec F S64x128 .f32) (main_arg10 : FVec F S64x1x3x3 .f32) (main_arg11 : FVec F S128x64 .f32) : IVec S2x128x32x32 1 :=
  let main_cst : FVec F S_ .f32 := constant S_ .f32 0x00000000#32
  let main_v0 : FVec F S2x32x32 .f32 := (fun x v => Host.reduceAdd x v reducesTo_S2x128x32x32_S2x32x32_d1 h_S_) main_arg0 main_cst
  let main_v1 : FVec F S2x1x32x32 .f32 := broadcastInDim S2x1x32x32 ![0, 2, 3] bcast_S2x32x32_S2x1x32x32_0_2_3 main_v0
  let main_cst_0 : FVec F S_ .f32 := constant S_ .f32 0x43000000#32
  let main_v2 : FVec F S2x1x32x32 .f32 := broadcastInDim S2x1x32x32 ![] bcast_S_S2x1x32x32 main_cst_0
  let main_v3 : FVec F S2x1x32x32 .f32 := Host.divf main_v1 main_v2
  let main_v4 : FVec F S2x128x32x32 .f32 := broadcastInDim S2x128x32x32 ![0, 1, 2, 3] bcast_S2x1x32x32_S2x128x32x32_0_1_2_3 main_v3
  let main_v5 : FVec F S2x128x32x32 .f32 := subf main_arg0 main_v4
  let main_v6 : FVec F S2x128x32x32 .f32 := mulf main_v5 main_v5
  let main_cst_1 : FVec F S_ .f32 := constant S_ .f32 0x00000000#32
  let main_v7 : FVec F S2x32x32 .f32 := (fun x v => Host.reduceAdd x v reducesTo_S2x128x32x32_S2x32x32_d1 h_S_) main_v6 main_cst_1
  let main_v8 : FVec F S2x1x32x32 .f32 := broadcastInDim S2x1x32x32 ![0, 2, 3] bcast_S2x32x32_S2x1x32x32_0_2_3 main_v7
  let main_cst_2 : FVec F S_ .f32 := constant S_ .f32 0x43000000#32
  let main_v9 : FVec F S2x1x32x32 .f32 := broadcastInDim S2x1x32x32 ![] bcast_S_S2x1x32x32 main_cst_2
  let main_v10 : FVec F S2x1x32x32 .f32 := Host.divf main_v8 main_v9
  let main_v11 : FVec F S2x128x32x32 .f32 := broadcastInDim S2x128x32x32 ![0, 1, 2, 3] bcast_S2x1x32x32_S2x128x32x32_0_1_2_3 main_v3
  let main_v12 : FVec F S2x128x32x32 .f32 := subf main_arg0 main_v11
  let main_cst_3 : FVec F S_ .f32 := constant S_ .f32 0x3727C5AC#32
  let main_v13 : FVec F S2x1x32x32 .f32 := broadcastInDim S2x1x32x32 ![] bcast_S_S2x1x32x32 main_cst_3
  let main_v14 : FVec F S2x1x32x32 .f32 := addf main_v10 main_v13
  let main_v15 : FVec F S2x1x32x32 .f32 := Host.sqrt main_v14
  let main_v16 : FVec F S2x128x32x32 .f32 := broadcastInDim S2x128x32x32 ![0, 1, 2, 3] bcast_S2x1x32x32_S2x128x32x32_0_1_2_3 main_v15
  let main_v17 : FVec F S2x128x32x32 .f32 := Host.divf main_v12 main_v16
  let main_v18 : FVec F S1x128x1x1 .f32 := broadcastInDim S1x128x1x1 ![1] bcast_S128_S1x128x1x1_1 main_arg1
  fn_part1 (F := F) main_arg2 main_arg3 main_arg4 main_arg5 main_v17 main_v18
-- ==== Kernel.lean ====
abbrev S2x128x32x32 : Shape := ⟨4, ![2, 128, 32, 32]⟩
abbrev S128 : Shape := ⟨1, ![128]⟩
abbrev S6x2 : Shape := ⟨2, ![6, 2]⟩
abbrev S6x1x3x3 : Shape := ⟨4, ![6, 1, 3, 3]⟩
abbrev S1x4x1x1 : Shape := ⟨4, ![1, 4, 1, 1]⟩
abbrev S128x128 : Shape := ⟨2, ![128, 128]⟩
abbrev S64x128 : Shape := ⟨2, ![64, 128]⟩
abbrev S64x1x3x3 : Shape := ⟨4, ![64, 1, 3, 3]⟩
abbrev S128x64 : Shape := ⟨2, ![128, 64]⟩
abbrev S2x32x32x128 : Shape := ⟨4, ![2, 32, 32, 128]⟩
abbrev S2048x128 : Shape := ⟨2, ![2048, 128]⟩
abbrev S2x6 : Shape := ⟨2, ![2, 6]⟩
abbrev S2x1x6x1 : Shape := ⟨4, ![2, 1, 6, 1]⟩
abbrev S64x64 : Shape := ⟨2, ![64, 64]⟩
abbrev S_ : Shape := ⟨0, ![]⟩
abbrev S1x64x1x64 : Shape := ⟨4, ![1, 64, 1, 64]⟩
abbrev S2x64x6x64 : Shape := ⟨4, ![2, 64, 6, 64]⟩
abbrev S128x384 : Shape := ⟨2, ![128, 384]⟩
abbrev S1x128 : Shape := ⟨2, ![1, 128]⟩
abbrev S2048x384 : Shape := ⟨2, ![2048, 384]⟩
abbrev S2048 : Shape := ⟨1, ![2048]⟩
abbrev S2048x1 : Shape := ⟨2, ![2048, 1]⟩
abbrev S2x32x32x384 : Shape := ⟨4, ![2, 32, 32, 384]⟩
abbrev S2x34x34x384 : Shape := ⟨4, ![2, 34, 34, 384]⟩
abbrev S6x3x3 : Shape := ⟨3, ![6, 3, 3]⟩
abbrev S3x3x6 : Shape := ⟨3, ![3, 3, 6]⟩
abbrev S9x6 : Shape := ⟨2, ![9, 6]⟩
abbrev S9x6x64 : Shape := ⟨3, ![9, 6, 64]⟩
abbrev S9x384 : Shape := ⟨2, ![9, 384]⟩
abbrev S1x34x34x384 : Shape := ⟨4, ![1, 34, 34, 384]⟩
abbrev S1x32x32x384 : Shape := ⟨4, ![1, 32, 32, 384]⟩
abbrev S32x32x384 : Shape := ⟨3, ![32, 32, 384]⟩
abbrev S1x384 : Shape := ⟨2, ![1, 384]⟩
abbrev S1x1x384 : Shape := ⟨3, ![1, 1, 384]⟩
abbrev S2x1024x6x4x16 : Shape := ⟨5, ![2, 1024, 6, 4, 16]⟩
abbrev S2x1024x2x4x16 : Shape := ⟨5, ![2, 1024, 2, 4, 16]⟩
abbrev S2x4x16x1024x2 : Shape := ⟨5, ![2, 4, 16, 1024, 2]⟩
abbrev S8x16x2048 : Shape := ⟨3, ![8, 16, 2048]⟩
abbrev S2x4x1024x2x16 : Shape := ⟨5, ![2, 4, 1024, 2, 16]⟩
abbrev S8x2048x16 : Shape := ⟨3, ![8, 2048, 16]⟩
abbrev S1x4 : Shape := ⟨2, ![1, 4]⟩
abbrev S2x4 : Shape := ⟨2, ![2, 4]⟩
abbrev S8x1x1 : Shape := ⟨3, ![8, 1, 1]⟩
abbrev S1x16x2048 : Shape := ⟨3, ![1, 16, 2048]⟩
abbrev S1x1x1 : Shape := ⟨3, ![1, 1, 1]⟩
abbrev S16x2048 : Shape := ⟨2, ![16, 2048]⟩
abbrev S16 : Shape := ⟨1, ![16]⟩
abbrev S16x1 : Shape := ⟨2, ![16, 1]⟩
abbrev S1x1 : Shape := ⟨2, ![1, 1]⟩
abbrev S1x16x512 : Shape := ⟨3, ![1, 16, 512]⟩
abbrev S1x2048x16 : Shape := ⟨3, ![1, 2048, 16]⟩
abbrev S1x512x16 : Shape := ⟨3, ![1, 512, 16]⟩
abbrev S16x512 : Shape := ⟨2, ![16, 512]⟩
abbrev S512x2048 : Shape := ⟨2, ![512, 2048]⟩
abbrev S512 : Shape := ⟨1, ![512]⟩
abbrev S512x1 : Shape := ⟨2, ![512, 1]⟩
abbrev S2048x16 : Shape := ⟨2, ![2048, 16]⟩
abbrev S512x16 : Shape := ⟨2, ![512, 16]⟩
abbrev S2048x64 : Shape := ⟨2, ![2048, 64]⟩
abbrev S2x32x32x64 : Shape := ⟨4, ![2, 32, 32, 64]⟩
abbrev S2x34x34x64 : Shape := ⟨4, ![2, 34, 34, 64]⟩
abbrev S64x3x3 : Shape := ⟨3, ![64, 3, 3]⟩
abbrev S3x3x64 : Shape := ⟨3, ![3, 3, 64]⟩
abbrev S9x64 : Shape := ⟨2, ![9, 64]⟩
abbrev S2x1024x128 : Shape := ⟨3, ![2, 1024, 128]⟩
abbrev S1x34x34x64 : Shape := ⟨4, ![1, 34, 34, 64]⟩
abbrev S1x1024x128 : Shape := ⟨3, ![1, 1024, 128]⟩
abbrev S1x32x32x64 : Shape := ⟨4, ![1, 32, 32, 64]⟩
abbrev S32x32x64 : Shape := ⟨3, ![32, 32, 64]⟩
abbrev S1x64 : Shape := ⟨2, ![1, 64]⟩
abbrev S1x1x64 : Shape := ⟨3, ![1, 1, 64]⟩
abbrev S1024x64 : Shape := ⟨2, ![1024, 64]⟩
abbrev S1024x128 : Shape := ⟨2, ![1024, 128]⟩

abbrev nBuf : Space → Nat
  | .hbm => 75
  | .vmem => 44
  | .smem => 0
  | _ => 0

abbrev bufTy : (tb : Table) → Fin (tcTables nBuf tb) → BufTy
  | .hbm, ⟨0, _⟩ => ⟨S2x128x32x32, .f32⟩
  | .hbm, ⟨1, _⟩ => ⟨S128, .f32⟩
  | .hbm, ⟨2, _⟩ => ⟨S128, .f32⟩
  | .hbm, ⟨3, _⟩ => ⟨S6x2, .f32⟩
  | .hbm, ⟨4, _⟩ => ⟨S6x1x3x3, .f32⟩
  | .hbm, ⟨5, _⟩ => ⟨S1x4x1x1, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64x1x3x3, .f32⟩
  | .hbm, ⟨11, _⟩ => ⟨S128x64, .f32⟩
  | .hbm, ⟨12, _⟩ => ⟨S2x32x32x128, .f32⟩
  | .hbm, ⟨13, _⟩ => ⟨S2048x128, .f32⟩
  | .hbm, ⟨14, _⟩ => ⟨S2x6, .f32⟩
  | .hbm, ⟨15, _⟩ => ⟨S2x1x6x1, .f32⟩
  | .hbm, ⟨16, _⟩ => ⟨S64x64, .i32⟩
  | .hbm, ⟨17, _⟩ => ⟨S64x64, .i32⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S64x64, .f32⟩
  | .hbm, ⟨23, _⟩ => ⟨S1x64x1x64, .f32⟩
  | .hbm, ⟨24, _⟩ => ⟨S2x64x6x64, .f32⟩
  | .hbm, ⟨25, _⟩ => ⟨S2x64x6x64, .f32⟩
  | .hbm, ⟨26, _⟩ => ⟨S2x64x6x64, .f32⟩
  | .hbm, ⟨27, _⟩ => ⟨S128x384, .f32⟩
  | .hbm, ⟨28, _⟩ => ⟨S1x128, .f32⟩
  | .hbm, ⟨29, _⟩ => ⟨S1x128, .f32⟩
  | .hbm, ⟨30, _⟩ => ⟨S2048x384, .f32⟩
  | .hbm, ⟨31, _⟩ => ⟨S2x32x32x384, .f32⟩
  | .hbm, ⟨32, _⟩ => ⟨S_, .i32⟩
  | .hbm, ⟨33, _⟩ => ⟨S_, .f32⟩
  | .hbm, ⟨34, _⟩ => ⟨S2x34x34x384, .f32⟩
  | .hbm, ⟨35, _⟩ => ⟨S6x3x3, .f32⟩
  | .hbm, ⟨36, _⟩ => ⟨S3x3x6, .f32⟩
  | .hbm, ⟨37, _⟩ => ⟨S9x6, .f32⟩
  | .hbm, ⟨38, _⟩ => ⟨S9x6x64, .f32⟩
  | .hbm, ⟨39, _⟩ => ⟨S9x384, .f32⟩
  | .hbm, ⟨40, _⟩ => ⟨S2x32x32x384, .f32⟩
  | .hbm, ⟨41, _⟩ => ⟨S2x1024x6x4x16, .f32⟩
  | .hbm, ⟨42, _⟩ => ⟨S2x1024x2x4x16, .f32⟩
  | .hbm, ⟨43, _⟩ => ⟨S2x4x16x1024x2, .f32⟩
  | .hbm, ⟨44, _⟩ => ⟨S8x16x2048, .f32⟩
  | .hbm, ⟨45, _⟩ => ⟨S2x1024x2x4x16, .f32⟩
  | .hbm, ⟨46, _⟩ => ⟨S2x4x16x1024x2, .f32⟩
  | .hbm, ⟨47, _⟩ => ⟨S8x16x2048, .f32⟩
  | .hbm, ⟨48, _⟩ => ⟨S2x1024x2x4x16, .f32⟩
  | .hbm, ⟨49, _⟩ => ⟨S2x4x1024x2x16, .f32⟩
  | .hbm, ⟨50, _⟩ => ⟨S8x2048x16, .f32⟩
  | .hbm, ⟨51, _⟩ => ⟨S1x4, .f32⟩
  | .hbm, ⟨52, _⟩ => ⟨S2x4, .f32⟩
  | .hbm, ⟨53, _⟩ => ⟨S8x1x1, .f32⟩
  | .hbm, ⟨54, _⟩ => ⟨S8x16x2048, .f32⟩
  | .hbm, ⟨55, _⟩ => ⟨S8x16x2048, .f32⟩
  | .hbm, ⟨56, _⟩ => ⟨S8x2048x16, .f32⟩
  | .hbm, ⟨57, _⟩ => ⟨S2x4x1024x2x16, .f32⟩
  | .hbm, ⟨58, _⟩ => ⟨S2x1024x2x4x16, .f32⟩
  | .hbm, ⟨59, _⟩ => ⟨S2048x128, .f32⟩
  | .hbm, ⟨60, _⟩ => ⟨S1x128, .f32⟩
  | .hbm, ⟨61, _⟩ => ⟨S1x128, .f32⟩
  | .hbm, ⟨62, _⟩ => ⟨S2048x128, .f32⟩
  | .hbm, ⟨63, _⟩ => ⟨S2048x64, .f32⟩
  | .hbm, ⟨64, _⟩ => ⟨S2x32x32x64, .f32⟩
  | .hbm, ⟨65, _⟩ => ⟨S_, .i32⟩
  | .hbm, ⟨66, _⟩ => ⟨S_, .f32⟩
  | .hbm, ⟨67, _⟩ => ⟨S2x34x34x64, .f32⟩
  | .hbm, ⟨68, _⟩ => ⟨S64x3x3, .f32⟩
  | .hbm, ⟨69, _⟩ => ⟨S3x3x64, .f32⟩
  | .hbm, ⟨70, _⟩ => ⟨S9x64, .f32⟩
  | .hbm, ⟨71, _⟩ => ⟨S2x1024x128, .f32⟩
  | .hbm, ⟨72, _⟩ => ⟨S2x1024x128, .f32⟩
  | .hbm, ⟨73, _⟩ => ⟨S2x32x32x128, .f32⟩
  | .hbm, ⟨74, _⟩ => ⟨S2x128x32x32, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S128x384, .f32⟩
  | .local _ .vmem, ⟨4, _⟩ => ⟨S2048x384, .f32⟩
  | .local _ .vmem, ⟨5, _⟩ => ⟨S1x34x34x384, .f32⟩
  | .local _ .vmem, ⟨6, _⟩ => ⟨S1x34x34x384, .f32⟩
  | .local _ .vmem, ⟨7, _⟩ => ⟨S9x384, .f32⟩
  | .local _ .vmem, ⟨8, _⟩ => ⟨S1x32x32x384, .f32⟩
  | .local _ .vmem, ⟨9, _⟩ => ⟨S1x32x32x384, .f32⟩
  | .local _ .vmem, ⟨10, _⟩ => ⟨S1x16x2048, .f32⟩
  | .local _ .vmem, ⟨11, _⟩ => ⟨S1x16x2048, .f32⟩
  | .local _ .vmem, ⟨12, _⟩ => ⟨S1x16x2048, .f32⟩
  | .local _ .vmem, ⟨13, _⟩ => ⟨S1x16x2048, .f32⟩
  | .local _ .vmem, ⟨14, _⟩ => ⟨S1x1x1, .f32⟩
  | .local _ .vmem, ⟨15, _⟩ => ⟨S1x1x1, .f32⟩
  | .local _ .vmem, ⟨16, _⟩ => ⟨S1x16x2048, .f32⟩
  | .local _ .vmem, ⟨17, _⟩ => ⟨S1x16x2048, .f32⟩
  | .local _ .vmem, ⟨18, _⟩ => ⟨S1x16x2048, .f32⟩
  | .local _ .vmem, ⟨19, _⟩ => ⟨S1x16x2048, .f32⟩
  | .local _ .vmem, ⟨20, _⟩ => ⟨S1x16x512, .f32⟩
  | .local _ .vmem, ⟨21, _⟩ => ⟨S1x16x512, .f32⟩
  | .local _ .vmem, ⟨22, _⟩ => ⟨S1x16x2048, .f32⟩
  | .local _ .vmem, ⟨23, _⟩ => ⟨S1x16x2048, .f32⟩
  | .local _ .vmem, ⟨24, _⟩ => ⟨S1x2048x16, .f32⟩
  | .local _ .vmem, ⟨25, _⟩ => ⟨S1x2048x16, .f32⟩
  | .local _ .vmem, ⟨26, _⟩ => ⟨S1x512x16, .f32⟩
  | .local _ .vmem, ⟨27, _⟩ => ⟨S1x512x16, .f32⟩
  | .local _ .vmem, ⟨28, _⟩ => ⟨S2048x128, .f32⟩
  | .local _ .vmem, ⟨29, _⟩ => ⟨S2048x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S64x128, .f32⟩
  | .local _ .vmem, ⟨34, _⟩ => ⟨S2048x128, .f32⟩
  | .local _ .vmem, ⟨35, _⟩ => ⟨S2048x64, .f32⟩
  | .local _ .vmem, ⟨36, _⟩ => ⟨S1x34x34x64, .f32⟩
  | .local _ .vmem, ⟨37, _⟩ => ⟨S1x34x34x64, .f32⟩
  | .local _ .vmem, ⟨38, _⟩ => ⟨S9x64, .f32⟩
  | .local _ .vmem, ⟨39, _⟩ => ⟨S128x64, .f32⟩
  | .local _ .vmem, ⟨40, _⟩ => ⟨S1x1024x128, .f32⟩
  | .local _ .vmem, ⟨41, _⟩ => ⟨S1x1024x128, .f32⟩
  | .local _ .vmem, ⟨42, _⟩ => ⟨S1x1024x128, .f32⟩
  | .local _ .vmem, ⟨43, _⟩ => ⟨S1x1024x128, .f32⟩
  | _, _ => ⟨S2x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v47 : Ref sig .tc := ⟨.hbm, 64, rfl⟩
abbrev main_c_1 : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x34x34x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x32x32x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x16x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x16x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x16x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x16x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := .none

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2048x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S2048x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S2048x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev grid5 : Pipeline.Grid := ⟨1, ![2], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x34x34x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x1024x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]
-- ==== ReferenceIdeal.lean ====
abbrev S2x128x32x32 : Shape := ⟨4, ![2, 128, 32, 32]⟩
abbrev S128 : Shape := ⟨1, ![128]⟩
abbrev S6x2 : Shape := ⟨2, ![6, 2]⟩
abbrev S6x1x3x3 : Shape := ⟨4, ![6, 1, 3, 3]⟩
abbrev S1x4x1x1 : Shape := ⟨4, ![1, 4, 1, 1]⟩
abbrev S128x128 : Shape := ⟨2, ![128, 128]⟩
abbrev S64x128 : Shape := ⟨2, ![64, 128]⟩
abbrev S64x1x3x3 : Shape := ⟨4, ![64, 1, 3, 3]⟩
abbrev S128x64 : Shape := ⟨2, ![128, 64]⟩
abbrev S_ : Shape := ⟨0, ![]⟩
abbrev S2x32x32 : Shape := ⟨3, ![2, 32, 32]⟩
abbrev S2x1x32x32 : Shape := ⟨4, ![2, 1, 32, 32]⟩
abbrev S1x128x1x1 : Shape := ⟨4, ![1, 128, 1, 1]⟩
abbrev S2x2x64x32x32 : Shape := ⟨5, ![2, 2, 64, 32, 32]⟩
abbrev S2x64x32x32x6 : Shape := ⟨5, ![2, 64, 32, 32, 6]⟩
abbrev S2x6x64x32x32 : Shape := ⟨5, ![2, 6, 64, 32, 32]⟩
abbrev S2x64x6x32x32 : Shape := ⟨5, ![2, 64, 6, 32, 32]⟩
abbrev S128x6x32x32 : Shape := ⟨4, ![128, 6, 32, 32]⟩
abbrev S128x6x34x34 : Shape := ⟨4, ![128, 6, 34, 34]⟩
abbrev S6x1x1x1 : Shape := ⟨4, ![6, 1, 1, 1]⟩
abbrev S6 : Shape := ⟨1, ![6]⟩
abbrev S1x6x1x1 : Shape := ⟨4, ![1, 6, 1, 1]⟩
abbrev S2x2x4x16x32x32 : Shape := ⟨6, ![2, 2, 4, 16, 32, 32]⟩
abbrev S2x4x16x32x32x2 : Shape := ⟨6, ![2, 4, 16, 32, 32, 2]⟩
abbrev S2x4x16x2048 : Shape := ⟨4, ![2, 4, 16, 2048]⟩
abbrev S2x4x16 : Shape := ⟨3, ![2, 4, 16]⟩
abbrev S2x4x16x1 : Shape := ⟨4, ![2, 4, 16, 1]⟩
abbrev S2x4x2048x2048 : Shape := ⟨4, ![2, 4, 2048, 2048]⟩
abbrev S2x4x2048x512 : Shape := ⟨4, ![2, 4, 2048, 512]⟩
abbrev S16384 : Shape := ⟨1, ![16384]⟩
abbrev S2x4x2048x1 : Shape := ⟨4, ![2, 4, 2048, 1]⟩
abbrev S8388608 : Shape := ⟨1, ![8388608]⟩
abbrev S33554432 : Shape := ⟨1, ![33554432]⟩
abbrev S8388608x1 : Shape := ⟨2, ![8388608, 1]⟩
abbrev S2x4x2048 : Shape := ⟨3, ![2, 4, 2048]⟩
abbrev S2x32x32x128 : Shape := ⟨4, ![2, 32, 32, 128]⟩
abbrev S2x32x32x64 : Shape := ⟨4, ![2, 32, 32, 64]⟩
abbrev S2x64x32x32 : Shape := ⟨4, ![2, 64, 32, 32]⟩
abbrev S2x64x34x34 : Shape := ⟨4, ![2, 64, 34, 34]⟩
abbrev S64x1x1x1 : Shape := ⟨4, ![64, 1, 1, 1]⟩
abbrev S64 : Shape := ⟨1, ![64]⟩
abbrev S1x64x1x1 : Shape := ⟨4, ![1, 64, 1, 1]⟩

abbrev nBuf : Space → Nat
  | .hbm => 302
  | .vmem => 0
  | .smem => 0
  | _ => 0

abbrev hbmTy0_0 (i : Nat) : BufTy := match i % 128 with
  | 0 => ⟨S2x128x32x32, .f32⟩
  | 1 => ⟨S128, .f32⟩
  | 2 => ⟨S128, .f32⟩
  | 3 => ⟨S6x2, .f32⟩
  | 4 => ⟨S6x1x3x3, .f32⟩
  | 5 => ⟨S1x4x1x1, .f32⟩
  | 6 => ⟨S128x128, .f32⟩
  | 7 => ⟨S128, .f32⟩
  | 8 => ⟨S128, .f32⟩
  | 9 => ⟨S64x128, .f32⟩
  | 10 => ⟨S64x1x3x3, .f32⟩
  | 11 => ⟨S128x64, .f32⟩
  | 12 => ⟨S_, .f32⟩
  | 13 => ⟨S2x32x32, .f32⟩
  | 14 => ⟨S2x1x32x32, .f32⟩
  | 15 => ⟨S_, .f32⟩
  | 16 => ⟨S2x1x32x32, .f32⟩
  | 17 => ⟨S2x1x32x32, .f32⟩
  | 18 => ⟨S2x128x32x32, .f32⟩
  | 19 => ⟨S2x128x32x32, .f32⟩
  | 20 => ⟨S2x128x32x32, .f32⟩
  | 21 => ⟨S_, .f32⟩
  | 22 => ⟨S2x32x32, .f32⟩
  | 23 => ⟨S2x1x32x32, .f32⟩
  | 24 => ⟨S_, .f32⟩
  | 25 => ⟨S2x1x32x32, .f32⟩
  | 26 => ⟨S2x1x32x32, .f32⟩
  | 27 => ⟨S2x128x32x32, .f32⟩
  | 28 => ⟨S2x128x32x32, .f32⟩
  | 29 => ⟨S_, .f32⟩
  | 30 => ⟨S2x1x32x32, .f32⟩
  | 31 => ⟨S2x1x32x32, .f32⟩
  | 32 => ⟨S2x1x32x32, .f32⟩
  | 33 => ⟨S2x128x32x32, .f32⟩
  | 34 => ⟨S2x128x32x32, .f32⟩
  | 35 => ⟨S1x128x1x1, .f32⟩
  | 36 => ⟨S2x128x32x32, .f32⟩
  | 37 => ⟨S2x128x32x32, .f32⟩
  | 38 => ⟨S1x128x1x1, .f32⟩
  | 39 => ⟨S2x128x32x32, .f32⟩
  | 40 => ⟨S2x128x32x32, .f32⟩
  | 41 => ⟨S2x2x64x32x32, .f32⟩
  | 42 => ⟨S2x64x32x32x6, .f32⟩
  | 43 => ⟨S2x6x64x32x32, .f32⟩
  | 44 => ⟨S2x64x6x32x32, .f32⟩
  | 45 => ⟨S128x6x32x32, .f32⟩
  | 46 => ⟨S_, .i32⟩
  | 47 => ⟨S_, .f32⟩
  | 48 => ⟨S128x6x34x34, .f32⟩
  | 49 => ⟨S128x6x32x32, .f32⟩
  | 50 => ⟨S6x1x1x1, .f32⟩
  | 51 => ⟨S6, .f32⟩
  | 52 => ⟨S1x6x1x1, .f32⟩
  | 53 => ⟨S128x6x32x32, .f32⟩
  | 54 => ⟨S128x6x32x32, .f32⟩
  | 55 => ⟨S128x6x32x32, .f32⟩
  | 56 => ⟨S6x1x1x1, .f32⟩
  | 57 => ⟨S6, .f32⟩
  | 58 => ⟨S1x6x1x1, .f32⟩
  | 59 => ⟨S128x6x32x32, .f32⟩
  | 60 => ⟨S128x6x32x32, .f32⟩
  | 61 => ⟨S128x6x32x32, .f32⟩
  | 62 => ⟨S128x6x32x32, .f32⟩
  | 63 => ⟨S6x1x1x1, .f32⟩
  | 64 => ⟨S6, .f32⟩
  | 65 => ⟨S1x6x1x1, .f32⟩
  | 66 => ⟨S128x6x32x32, .f32⟩
  | 67 => ⟨S128x6x32x32, .f32⟩
  | 68 => ⟨S128x6x32x32, .f32⟩
  | 69 => ⟨S128x6x32x32, .f32⟩
  | 70 => ⟨S6x1x1x1, .f32⟩
  | 71 => ⟨S6, .f32⟩
  | 72 => ⟨S1x6x1x1, .f32⟩
  | 73 => ⟨S128x6x32x32, .f32⟩
  | 74 => ⟨S128x6x32x32, .f32⟩
  | 75 => ⟨S128x6x32x32, .f32⟩
  | 76 => ⟨S128x6x32x32, .f32⟩
  | 77 => ⟨S6x1x1x1, .f32⟩
  | 78 => ⟨S6, .f32⟩
  | 79 => ⟨S1x6x1x1, .f32⟩
  | 80 => ⟨S128x6x32x32, .f32⟩
  | 81 => ⟨S128x6x32x32, .f32⟩
  | 82 => ⟨S128x6x32x32, .f32⟩
  | 83 => ⟨S128x6x32x32, .f32⟩
  | 84 => ⟨S6x1x1x1, .f32⟩
  | 85 => ⟨S6, .f32⟩
  | 86 => ⟨S1x6x1x1, .f32⟩
  | 87 => ⟨S128x6x32x32, .f32⟩
  | 88 => ⟨S128x6x32x32, .f32⟩
  | 89 => ⟨S128x6x32x32, .f32⟩
  | 90 => ⟨S128x6x32x32, .f32⟩
  | 91 => ⟨S6x1x1x1, .f32⟩
  | 92 => ⟨S6, .f32⟩
  | 93 => ⟨S1x6x1x1, .f32⟩
  | 94 => ⟨S128x6x32x32, .f32⟩
  | 95 => ⟨S128x6x32x32, .f32⟩
  | 96 => ⟨S128x6x32x32, .f32⟩
  | 97 => ⟨S128x6x32x32, .f32⟩
  | 98 => ⟨S6x1x1x1, .f32⟩
  | 99 => ⟨S6, .f32⟩
  | 100 => ⟨S1x6x1x1, .f32⟩
  | 101 => ⟨S128x6x32x32, .f32⟩
  | 102 => ⟨S128x6x32x32, .f32⟩
  | 103 => ⟨S128x6x32x32, .f32⟩
  | 104 => ⟨S128x6x32x32, .f32⟩
  | 105 => ⟨S6x1x1x1, .f32⟩
  | 106 => ⟨S6, .f32⟩
  | 107 => ⟨S1x6x1x1, .f32⟩
  | 108 => ⟨S128x6x32x32, .f32⟩
  | 109 => ⟨S128x6x32x32, .f32⟩
  | 110 => ⟨S128x6x32x32, .f32⟩
  | 111 => ⟨S2x64x6x32x32, .f32⟩
  | 112 => ⟨S2x6x64x32x32, .f32⟩
  | 113 => ⟨S2x2x64x32x32, .f32⟩
  | 114 => ⟨S2x2x64x32x32, .f32⟩
  | 115 => ⟨S2x2x64x32x32, .f32⟩
  | 116 => ⟨S2x2x4x16x32x32, .f32⟩
  | 117 => ⟨S2x4x16x32x32x2, .f32⟩
  | 118 => ⟨S2x4x16x2048, .f32⟩
  | 119 => ⟨S2x2x4x16x32x32, .f32⟩
  | 120 => ⟨S2x4x16x32x32x2, .f32⟩
  | 121 => ⟨S2x4x16x2048, .f32⟩
  | 122 => ⟨S2x2x4x16x32x32, .f32⟩
  | 123 => ⟨S2x4x16x32x32x2, .f32⟩
  | 124 => ⟨S2x4x16x2048, .f32⟩
  | 125 => ⟨S2x4x16x2048, .f32⟩
  | 126 => ⟨S_, .f32⟩
  | 127 => ⟨S2x4x16, .f32⟩
  | _ => ⟨S2x128x32x32, .f32⟩

abbrev hbmTy0_1 (i : Nat) : BufTy := match i % 128 with
  | 0 => ⟨S2x4x16x1, .f32⟩
  | 1 => ⟨S2x4x16x1, .f32⟩
  | 2 => ⟨S_, .f32⟩
  | 3 => ⟨S2x4x16x1, .f32⟩
  | 4 => ⟨S2x4x16x1, .f32⟩
  | 5 => ⟨S2x4x16x2048, .f32⟩
  | 6 => ⟨S2x4x16x2048, .f32⟩
  | 7 => ⟨S2x4x16x2048, .f32⟩
  | 8 => ⟨S_, .f32⟩
  | 9 => ⟨S2x4x16, .f32⟩
  | 10 => ⟨S2x4x16x1, .f32⟩
  | 11 => ⟨S2x4x16x1, .f32⟩
  | 12 => ⟨S_, .f32⟩
  | 13 => ⟨S2x4x16x1, .f32⟩
  | 14 => ⟨S2x4x16x1, .f32⟩
  | 15 => ⟨S2x4x16x2048, .f32⟩
  | 16 => ⟨S2x4x16x2048, .f32⟩
  | 17 => ⟨S2x4x2048x2048, .f32⟩
  | 18 => ⟨S2x4x2048x2048, .f32⟩
  | 19 => ⟨S2x4x2048x2048, .f32⟩
  | 20 => ⟨S2x4x2048x512, .f32⟩
  | 21 => ⟨S2x4x2048x512, .i32⟩
  | 22 => ⟨S16384, .i32⟩
  | 23 => ⟨S_, .i32⟩
  | 24 => ⟨S16384, .i32⟩
  | 25 => ⟨S16384, .i32⟩
  | 26 => ⟨S2x4x2048x1, .i32⟩
  | 27 => ⟨S2x4x2048x512, .i32⟩
  | 28 => ⟨S2x4x2048x512, .i32⟩
  | 29 => ⟨S8388608, .i32⟩
  | 30 => ⟨S_, .f32⟩
  | 31 => ⟨S33554432, .f32⟩
  | 32 => ⟨S_, .i32⟩
  | 33 => ⟨S8388608, .i32⟩
  | 34 => ⟨S8388608, .i1⟩
  | 35 => ⟨S_, .i32⟩
  | 36 => ⟨S8388608, .i32⟩
  | 37 => ⟨S8388608, .i32⟩
  | 38 => ⟨S8388608, .i32⟩
  | 39 => ⟨S8388608x1, .i32⟩
  | 40 => ⟨S_, .f32⟩
  | 41 => ⟨S8388608, .f32⟩
  | 42 => ⟨S33554432, .f32⟩
  | 43 => ⟨S2x4x2048x2048, .f32⟩
  | 44 => ⟨S_, .f32⟩
  | 45 => ⟨S2x4x2048x2048, .f32⟩
  | 46 => ⟨S2x4x2048x2048, .i1⟩
  | 47 => ⟨S_, .f32⟩
  | 48 => ⟨S_, .f32⟩
  | 49 => ⟨S2x4x2048x2048, .f32⟩
  | 50 => ⟨S2x4x2048x2048, .f32⟩
  | 51 => ⟨S_, .f32⟩
  | 52 => ⟨S2x4x2048, .f32⟩
  | 53 => ⟨S_, .f32⟩
  | 54 => ⟨S2x4x2048, .f32⟩
  | 55 => ⟨S2x4x2048, .f32⟩
  | 56 => ⟨S2x4x2048x1, .f32⟩
  | 57 => ⟨S2x4x2048x2048, .f32⟩
  | 58 => ⟨S2x4x2048x2048, .f32⟩
  | 59 => ⟨S2x4x2048x2048, .f32⟩
  | 60 => ⟨S_, .f32⟩
  | 61 => ⟨S2x4x2048, .f32⟩
  | 62 => ⟨S2x4x2048x1, .f32⟩
  | 63 => ⟨S2x4x2048x2048, .f32⟩
  | 64 => ⟨S2x4x2048x2048, .f32⟩
  | 65 => ⟨S2x4x16x2048, .f32⟩
  | 66 => ⟨S2x4x16x32x32x2, .f32⟩
  | 67 => ⟨S2x2x4x16x32x32, .f32⟩
  | 68 => ⟨S2x128x32x32, .f32⟩
  | 69 => ⟨S2x32x32x128, .f32⟩
  | 70 => ⟨S2x128x32x32, .f32⟩
  | 71 => ⟨S2x128x32x32, .f32⟩
  | 72 => ⟨S_, .f32⟩
  | 73 => ⟨S2x32x32, .f32⟩
  | 74 => ⟨S2x1x32x32, .f32⟩
  | 75 => ⟨S_, .f32⟩
  | 76 => ⟨S2x1x32x32, .f32⟩
  | 77 => ⟨S2x1x32x32, .f32⟩
  | 78 => ⟨S2x128x32x32, .f32⟩
  | 79 => ⟨S2x128x32x32, .f32⟩
  | 80 => ⟨S2x128x32x32, .f32⟩
  | 81 => ⟨S_, .f32⟩
  | 82 => ⟨S2x32x32, .f32⟩
  | 83 => ⟨S2x1x32x32, .f32⟩
  | 84 => ⟨S_, .f32⟩
  | 85 => ⟨S2x1x32x32, .f32⟩
  | 86 => ⟨S2x1x32x32, .f32⟩
  | 87 => ⟨S2x128x32x32, .f32⟩
  | 88 => ⟨S2x128x32x32, .f32⟩
  | 89 => ⟨S_, .f32⟩
  | 90 => ⟨S2x1x32x32, .f32⟩
  | 91 => ⟨S2x1x32x32, .f32⟩
  | 92 => ⟨S2x1x32x32, .f32⟩
  | 93 => ⟨S2x128x32x32, .f32⟩
  | 94 => ⟨S2x128x32x32, .f32⟩
  | 95 => ⟨S1x128x1x1, .f32⟩
  | 96 => ⟨S2x128x32x32, .f32⟩
  | 97 => ⟨S2x128x32x32, .f32⟩
  | 98 => ⟨S1x128x1x1, .f32⟩
  | 99 => ⟨S2x128x32x32, .f32⟩
  | 100 => ⟨S2x128x32x32, .f32⟩
  | 101 => ⟨S2x32x32x64, .f32⟩
  | 102 => ⟨S2x64x32x32, .f32⟩
  | 103 => ⟨S_, .i32⟩
  | 104 => ⟨S_, .f32⟩
  | 105 => ⟨S2x64x34x34, .f32⟩
  | 106 => ⟨S2x64x32x32, .f32⟩
  | 107 => ⟨S64x1x1x1, .f32⟩
  | 108 => ⟨S64, .f32⟩
  | 109 => ⟨S1x64x1x1, .f32⟩
  | 110 => ⟨S2x64x32x32, .f32⟩
  | 111 => ⟨S2x64x32x32, .f32⟩
  | 112 => ⟨S2x64x32x32, .f32⟩
  | 113 => ⟨S64x1x1x1, .f32⟩
  | 114 => ⟨S64, .f32⟩
  | 115 => ⟨S1x64x1x1, .f32⟩
  | 116 => ⟨S2x64x32x32, .f32⟩
  | 117 => ⟨S2x64x32x32, .f32⟩
  | 118 => ⟨S2x64x32x32, .f32⟩
  | 119 => ⟨S2x64x32x32, .f32⟩
  | 120 => ⟨S64x1x1x1, .f32⟩
  | 121 => ⟨S64, .f32⟩
  | 122 => ⟨S1x64x1x1, .f32⟩
  | 123 => ⟨S2x64x32x32, .f32⟩
  | 124 => ⟨S2x64x32x32, .f32⟩
  | 125 => ⟨S2x64x32x32, .f32⟩
  | 126 => ⟨S2x64x32x32, .f32⟩
  | 127 => ⟨S64x1x1x1, .f32⟩
  | _ => ⟨S2x128x32x32, .f32⟩

abbrev hbmTy0_2 (i : Nat) : BufTy := match i % 128 with
  | 0 => ⟨S64, .f32⟩
  | 1 => ⟨S1x64x1x1, .f32⟩
  | 2 => ⟨S2x64x32x32, .f32⟩
  | 3 => ⟨S2x64x32x32, .f32⟩
  | 4 => ⟨S2x64x32x32, .f32⟩
  | 5 => ⟨S2x64x32x32, .f32⟩
  | 6 => ⟨S64x1x1x1, .f32⟩
  | 7 => ⟨S64, .f32⟩
  | 8 => ⟨S1x64x1x1, .f32⟩
  | 9 => ⟨S2x64x32x32, .f32⟩
  | 10 => ⟨S2x64x32x32, .f32⟩
  | 11 => ⟨S2x64x32x32, .f32⟩
  | 12 => ⟨S2x64x32x32, .f32⟩
  | 13 => ⟨S64x1x1x1, .f32⟩
  | 14 => ⟨S64, .f32⟩
  | 15 => ⟨S1x64x1x1, .f32⟩
  | 16 => ⟨S2x64x32x32, .f32⟩
  | 17 => ⟨S2x64x32x32, .f32⟩
  | 18 => ⟨S2x64x32x32, .f32⟩
  | 19 => ⟨S2x64x32x32, .f32⟩
  | 20 => ⟨S64x1x1x1, .f32⟩
  | 21 => ⟨S64, .f32⟩
  | 22 => ⟨S1x64x1x1, .f32⟩
  | 23 => ⟨S2x64x32x32, .f32⟩
  | 24 => ⟨S2x64x32x32, .f32⟩
  | 25 => ⟨S2x64x32x32, .f32⟩
  | 26 => ⟨S2x64x32x32, .f32⟩
  | 27 => ⟨S64x1x1x1, .f32⟩
  | 28 => ⟨S64, .f32⟩
  | 29 => ⟨S1x64x1x1, .f32⟩
  | 30 => ⟨S2x64x32x32, .f32⟩
  | 31 => ⟨S2x64x32x32, .f32⟩
  | 32 => ⟨S2x64x32x32, .f32⟩
  | 33 => ⟨S2x64x32x32, .f32⟩
  | 34 => ⟨S64x1x1x1, .f32⟩
  | 35 => ⟨S64, .f32⟩
  | 36 => ⟨S1x64x1x1, .f32⟩
  | 37 => ⟨S2x64x32x32, .f32⟩
  | 38 => ⟨S2x64x32x32, .f32⟩
  | 39 => ⟨S2x64x32x32, .f32⟩
  | 40 => ⟨S_, .f32⟩
  | 41 => ⟨S2x64x32x32, .f32⟩
  | 42 => ⟨S2x64x32x32, .f32⟩
  | 43 => ⟨S2x32x32x128, .f32⟩
  | 44 => ⟨S2x128x32x32, .f32⟩
  | 45 => ⟨S2x128x32x32, .f32⟩
  | _ => ⟨S2x128x32x32, .f32⟩

abbrev hbmTy (i : Nat) : BufTy := match i / 128 with
  | 0 => hbmTy0_0 i
  | 1 => hbmTy0_1 i
  | 2 => hbmTy0_2 i
  | _ => ⟨S2x128x32x32, .f32⟩

abbrev bufTy : (tb : Table) → Fin (tcTables nBuf tb) → BufTy
  | .hbm, ⟨i, _⟩ => hbmTy i
  | _, _ => ⟨S2x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_call1_v0 : Ref sig .tc := ⟨.hbm, 125, rfl⟩
abbrev main_call1_cst : Ref sig .tc := ⟨.hbm, 126, rfl⟩
abbrev main_call1_v1 : Ref sig .tc := ⟨.hbm, 127, rfl⟩
abbrev main_call1_v2 : Ref sig .tc := ⟨.hbm, 128, rfl⟩
abbrev main_v106 : Ref sig .tc := ⟨.hbm, 129, rfl⟩
abbrev main_cst_4 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_call2_v0 : Ref sig .tc := ⟨.hbm, 135, rfl⟩
abbrev main_call2_cst : Ref sig .tc := ⟨.hbm, 136, rfl⟩
abbrev main_call2_v1 : Ref sig .tc := ⟨.hbm, 137, rfl⟩
abbrev main_call2_v2 : Ref sig .tc := ⟨.hbm, 138, rfl⟩
abbrev main_v111 : Ref sig .tc := ⟨.hbm, 139, rfl⟩
abbrev main_cst_5 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_values : Ref sig .tc := ⟨.hbm, 148, rfl⟩
abbrev main_indices : Ref sig .tc := ⟨.hbm, 149, rfl⟩
abbrev main_v119 : Ref sig .tc := ⟨.hbm, 150, rfl⟩
abbrev main_c_6 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_7 : Ref sig .tc := ⟨.hbm, 158, rfl⟩
abbrev main_v126 : Ref sig .tc := ⟨.hbm, 159, rfl⟩
abbrev main_c_8 : Ref sig .tc := ⟨.hbm, 160, rfl⟩
abbrev main_v127 : Ref sig .tc := ⟨.hbm, 161, rfl⟩
abbrev main_v128 : Ref sig .tc := ⟨.hbm, 162, rfl⟩
abbrev main_c_9 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_10 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_11 : Ref sig .tc := ⟨.hbm, 172, rfl⟩
abbrev main_v136 : Ref sig .tc := ⟨.hbm, 173, rfl⟩
abbrev main_v137 : Ref sig .tc := ⟨.hbm, 174, rfl⟩
abbrev main_cst_12 : Ref sig .tc := ⟨.hbm, 175, rfl⟩
abbrev main_call3_v0 : Ref sig .tc := ⟨.hbm, 176, rfl⟩
abbrev main_call3_v1 : Ref sig .tc := ⟨.hbm, 177, rfl⟩
abbrev main_v138 : Ref sig .tc := ⟨.hbm, 178, rfl⟩
abbrev main_cst_13 : Ref sig .tc := ⟨.hbm, 179, rfl⟩
abbrev main_v139 : Ref sig .tc := ⟨.hbm, 180, rfl⟩
abbrev main_cst_14 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_15 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_16 : Ref sig .tc := ⟨.hbm, 200, rfl⟩
abbrev main_v157 : Ref sig .tc := ⟨.hbm, 201, rfl⟩
abbrev main_v158 : Ref sig .tc := ⟨.hbm, 202, rfl⟩
abbrev main_cst_17 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_18 : Ref sig .tc := ⟨.hbm, 209, rfl⟩
abbrev main_v164 : Ref sig .tc := ⟨.hbm, 210, rfl⟩
abbrev main_v165 : Ref sig .tc := ⟨.hbm, 211, rfl⟩
abbrev main_cst_19 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_20 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_c_21 : Ref sig .tc := ⟨.hbm, 231, rfl⟩
abbrev main_call4_v0 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_call5_cst : Ref sig .tc := ⟨.hbm, 296, rfl⟩
abbrev main_call5_v0 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩

abbrev nD : Nat := 1
abbrev τ : Topo := Topo.v7x

variable {F : FTy → Type} [FloatOps F]
-- ==== Proof.KRun.lean ====
/-
  The kernel's run with its result named.
-/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The logic's resources for this program. -/
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The kernel runs; its result buffer ends at the last boundary's contents and its arguments end unchanged. -/
theorem run_out : θ_run defs (onTc (τ := τ) (main (F := F))) ⟨m, fun _ => 0, ρ⟩ (fun r => ∀ c : Dev nD,
      r.2.mem ((c.tc : Thread nD τ).loc main_v55) = W16 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨(h c _ (mem_uc main_v55 (by decide))),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Val

end

end
-- ==== Proof.Spec.lean ====
/-
  The block's mathematics over the extended reals, written on coordinates: layer norm, the grouped channel mixing, the
  3 by 3 depthwise convolution, normalised scores, the row softmax over the greatest scores, and the feed-forward part.
  Both programs are read against these functions.
-/
module

public import Idealize.ShloMosaic.Lib.Pointwise

@[expose] public section

set_option maxRecDepth 16384

noncomputable section

namespace Block

open Idealize.ShloMosaic

/-- The twelve argument arrays. -/
structure Args where
  x : FVec Ideal ⟨4, ![2, 128, 32, 32]⟩ .f32
  g1 : FVec Ideal ⟨1, ![128]⟩ .f32
  b1 : FVec Ideal ⟨1, ![128]⟩ .f32
  wq : FVec Ideal ⟨2, ![6, 2]⟩ .f32
  wd : FVec Ideal ⟨4, ![6, 1, 3, 3]⟩ .f32
  tm : FVec Ideal ⟨4, ![1, 4, 1, 1]⟩ .f32
  pw : FVec Ideal ⟨2, ![128, 128]⟩ .f32
  g2 : FVec Ideal ⟨1, ![128]⟩ .f32
  b2 : FVec Ideal ⟨1, ![128]⟩ .f32
  fi : FVec Ideal ⟨2, ![64, 128]⟩ .f32
  fd : FVec Ideal ⟨4, ![64, 1, 3, 3]⟩ .f32
  fo : FVec Ideal ⟨2, ![128, 64]⟩ .f32

/-! ## Layer norm of a vector of 128 channels -/

/-- The number of channels, 128, as a float constant. -/
abbrev cN : EReal := Ideal.ofBits .f32 0x43000000#32
/-- The variance's offset, 1e-5 rounded to f32. -/
abbrev cE5 : EReal := Ideal.ofBits .f32 0x3727C5AC#32
/-- The least norm divided by, 1e-12 rounded to f32. -/
abbrev cE12 : EReal := Ideal.ofBits .f32 0x2B8CBCCC#32
/-- One half. -/
abbrev cHalf : EReal := Ideal.ofBits .f32 0x3F000000#32
/-- The number of scores kept, 512. -/
abbrev cK : EReal := Ideal.ofBits .f32 0x44000000#32

/-- The mean over the channels. -/
def mean (u : Fin 128 → EReal) : EReal := Ideal.div (∑ c, u c) cN

/-- The deviation from the mean. -/
def ctr (u : Fin 128 → EReal) (c : Fin 128) : EReal := u c - mean u

/-- The variance over the channels. -/
def vari (u : Fin 128 → EReal) : EReal := Ideal.div (∑ c, ctr u c * ctr u c) cN

/-- Layer norm with weights `g` and offsets `b`. -/
def lnv (g b u : Fin 128 → EReal) (c : Fin 128) : EReal :=
  Ideal.div (ctr u c) (Ideal.sqrt (vari u + cE5)) * g c + b c

/-! ## The depthwise convolution -/

/-- The image `f` with a border of zeros, at the bordered coordinates `i`, `j`. -/
def pad2 (f : Fin 32 → Fin 32 → EReal) (i j : ℕ) : EReal :=
  if h : (1 ≤ i ∧ i - 1 < 32) ∧ 1 ≤ j ∧ j - 1 < 32 then f ⟨i - 1, h.1.2⟩ ⟨j - 1, h.2.2⟩ else 0

/-- The 3 by 3 convolution with zero border: nine shifted products, row by row. -/
def conv9 (f : Fin 32 → Fin 32 → EReal) (w : Fin 3 → Fin 3 → EReal) (h v : Fin 32) : EReal :=
  pad2 f h v * w 0 0 + pad2 f h (v + 1) * w 0 1 + pad2 f h (v + 2) * w 0 2
    + pad2 f (h + 1) v * w 1 0 + pad2 f (h + 1) (v + 1) * w 1 1 + pad2 f (h + 1) (v + 2) * w 1 2
    + pad2 f (h + 2) v * w 2 0 + pad2 f (h + 2) (v + 1) * w 2 1 + pad2 f (h + 2) (v + 2) * w 2 2

/-! ## Coordinates of a position -/

/-- The row of pixels of position `n`. -/
def hOf (n : Fin 2048) : Fin 32 := ⟨n / 64, by omega⟩
/-- The column of pixels of position `n`. -/
def vOf (n : Fin 2048) : Fin 32 := ⟨n / 2 % 32, by omega⟩
/-- The channel group of position `n`. -/
def tOf (n : Fin 2048) : Fin 2 := ⟨n % 2, by omega⟩
/-- The position of a pixel in a channel group. -/
def posOf (h v : Fin 32) (t : Fin 2) : Fin 2048 := ⟨(h * 32 + v) * 2 + t, by omega⟩
/-- Channel `c` of head `hd` within a group. -/
def chOf (hd : Fin 4) (c : Fin 16) : Fin 64 := ⟨hd * 16 + c, by omega⟩
/-- Channel `d` of group `t` of all 128. -/
def grp (t : Fin 2) (d : Fin 64) : Fin 128 := ⟨t * 64 + d, by omega⟩

/-! ## Queries, keys and values -/

/-- The first layer norm. -/
def ln1 (a : Args) (b : Fin 2) (h v : Fin 32) : Fin 128 → EReal :=
  lnv (fun c => a.g1 (ix1 c)) (fun c => a.b1 (ix1 c)) (fun c => a.x (ix4 b c h v))

/-- The channel mixing across the two groups. -/
def qkv0 (a : Args) (b : Fin 2) (o : Fin 6) (d : Fin 64) (h v : Fin 32) : EReal :=
  ∑ t : Fin 2, ln1 a b h v (grp t d) * a.wq (ix2 o t)

/-- … and its depthwise convolution. -/
def qkv (a : Args) (b : Fin 2) (o : Fin 6) (d : Fin 64) (h v : Fin 32) : EReal :=
  conv9 (qkv0 a b o d) (fun i j => a.wd (ix4 o 0 i j)) h v

/-- Queries (`s = 0`), keys (`s = 1`) and values (`s = 2`) of a head at a position. -/
def zz (a : Args) (s : Fin 3) (b : Fin 2) (hd : Fin 4) (c : Fin 16) (n : Fin 2048) : EReal :=
  qkv a b ⟨2 * s + tOf n, by omega⟩ (chOf hd c) (hOf n) (vOf n)

/-- A channel divided by its norm over the positions. -/
def nrm (a : Args) (s : Fin 3) (b : Fin 2) (hd : Fin 4) (c : Fin 16) (n : Fin 2048) : EReal :=
  Ideal.div (zz a s b hd c n) (max (Ideal.sqrt (∑ l, zz a s b hd c l * zz a s b hd c l)) cE12)

/-- The scores as the reference computes them: the product of the normalised vectors, times the temperature. -/
def scR (a : Args) (b : Fin 2) (hd : Fin 4) (n m : Fin 2048) : EReal :=
  (∑ c, nrm a 0 b hd c n * nrm a 1 b hd c m) * a.tm (ix4 0 hd 0 0)

/-- The scores as the kernel computes them: the temperature in the queries. -/
def scK (a : Args) (b : Fin 2) (hd : Fin 4) (n m : Fin 2048) : EReal :=
  ∑ c, nrm a 0 b hd c n * a.tm (ix4 0 hd 0 0) * nrm a 1 b hd c m

/-! ## After the attention -/

/-- Attention output (by head, channel of the head, position) as 128 channels of a pixel. -/
def chans (att : Fin 4 → Fin 16 → Fin 2048 → EReal) (h v : Fin 32) (k : Fin 128) : EReal :=
  att ⟨k / 16 % 4, by omega⟩ ⟨k % 16, by omega⟩ (posOf h v ⟨k / 64, by omega⟩)

/-- The first residual sum, the attention's projection added. -/
def res1 (a : Args) (att : Fin 2 → Fin 4 → Fin 16 → Fin 2048 → EReal) (b : Fin 2) (h v : Fin 32) (c : Fin 128) : EReal :=
  a.x (ix4 b c h v) + ∑ k, chans (att b) h v k * a.pw (ix2 c k)

/-- The feed-forward part's first product. -/
def ffn0 (a : Args) (att : Fin 2 → Fin 4 → Fin 16 → Fin 2048 → EReal) (b : Fin 2) (f : Fin 64) (h v : Fin 32) : EReal :=
  ∑ k, lnv (fun c => a.g2 (ix1 c)) (fun c => a.b2 (ix1 c)) (res1 a att b h v) k * a.fi (ix2 f k)

/-- The block's result. -/
def out (a : Args) (att : Fin 2 → Fin 4 → Fin 16 → Fin 2048 → EReal) (b : Fin 2) (c : Fin 128) (h v : Fin 32) : EReal :=
  res1 a att b h v c
    + ∑ f, max (conv9 (ffn0 a att b f) (fun i j => a.fd (ix4 f 0 i j)) h v) 0 * a.fo (ix2 c f)

end Block

end

end
-- ==== Proof.Bisect.lean ====
/-
  A row of scores: the 512 greatest of them by sorting, and by 22 halvings of the interval between the least and the
  greatest. Where the 512th and the 513th greatest lie further apart than the interval after 22 halvings, the two ways
  keep the same scores, and the two softmaxes over the kept scores are equal.
-/
module

public import Idealize.ShloMosaic.Lib.Pointwise
public import Idealize.ShloMosaic.Lib.SortFacts
public import proofs.«01_k».proof.Proof.Spec

@[expose] public section

set_option maxRecDepth 16384

noncomputable section

namespace Block

open Idealize.ShloMosaic

/-- 2^22 as a float constant. -/
abbrev cS : EReal := Ideal.ofBits .f32 0x4A800000#32

/-- The constant one half. -/
theorem cHalf_val : cHalf = (((1 : ℝ) / 2 : ℝ) : EReal) := by
  simp [cHalf, Ideal.ofBits, Ideal.ieee, -EReal.coe_mul]; norm_num
/-- The constant 512. -/
theorem cK_val : cK = ((512 : ℝ) : EReal) := by
  simp [cK, Ideal.ofBits, Ideal.ieee, -EReal.coe_mul]; norm_num
/-- The constant 2^22. -/
theorem cS_val : cS = (((2 : ℝ) ^ 22 : ℝ) : EReal) := by
  simp [cS, Ideal.ofBits, Ideal.ieee, -EReal.coe_mul]; norm_num [← EReal.coe_pow]

/-- The word of the negative infinity is the least extended real. -/
theorem negInf_val : Ideal.ofBits .f32 0xFF800000#32 = (⊥ : EReal) := by
  simp [Ideal.ofBits, Ideal.ieee]
/-- The word of the positive infinity is the greatest extended real. -/
theorem posInf_val : Ideal.ofBits .f32 0x7F800000#32 = (⊤ : EReal) := by
  simp [Ideal.ofBits, Ideal.ieee]

/-- A row of 2048 scores. -/
abbrev Row := Fin 2048 → EReal

/-- The position of the `k`-th greatest score, ties in order of position. -/
def top (f : Row) : Fin 2048 → Fin 2048 := sortedFrom fun a b => Ideal.cmp .ogt (f a) (f b) == 1#1

/-- The greatest score. -/
def mx (f : Row) : EReal := Finset.univ.fold max ⊥ f
/-- The least score. -/
def mn (f : Row) : EReal := Finset.univ.fold min ⊤ f

/-- The 512th and the 513th greatest score are further apart than the scores' range over 2^22. -/
def Gap (f : Row) : Prop := mx f - mn f < (f (top f ⟨511, by omega⟩) - f (top f ⟨512, by omega⟩)) * cS

/-- Position `m` is one of the 512 of the greatest scores. -/
def Kept (f : Row) (m : Fin 2048) : Prop := ∃ j : Fin 2048, j.1 < 512 ∧ top f j = m

/-- The number of scores that are at least `x`. -/
def cnt (f : Row) (x : EReal) : EReal := ∑ m, if x ≤ f m then (1 : EReal) else 0

/-- One halving of the interval. -/
def step (f : Row) (p : EReal × EReal) : EReal × EReal :=
  if cK ≤ cnt f (cHalf * (p.1 + p.2)) then (cHalf * (p.1 + p.2), p.2) else (p.1, cHalf * (p.1 + p.2))

/-- The interval after `k` halvings. -/
def bis (f : Row) : ℕ → EReal × EReal
  | 0 => (mn f, mx f)
  | k + 1 => step f (bis f k)

open Classical in
/-- The scores not kept replaced by the least extended real. -/
def msk (f : Row) (m : Fin 2048) : EReal := if Kept f m then f m else ⊥

/-- The exponentials by sorting. -/
def eR (f : Row) (m : Fin 2048) : EReal := Ideal.exp (msk f m - max ⊥ (mx (msk f)))
/-- The exponentials by halving. -/
def eK (f : Row) (m : Fin 2048) : EReal := if (bis f 22).1 ≤ f m then Ideal.exp (f m - mx f) else 0

/-- The weighted mean of `v` under the softmax of the kept scores, by sorting. -/
def attR (f v : Row) : EReal := ∑ m, v m * Ideal.div (eR f m) (∑ l, eR f l)
/-- The weighted mean of `v` under the softmax of the kept scores, by halving. -/
def attK (f v : Row) : EReal := ∑ m, Ideal.div (eK f m) (∑ l, eK f l) * v m

/-! ## The sorted row -/

/-- The comparison that sorts, as the order of the extended reals. -/
theorem cmp_ogt (x y : EReal) : (Ideal.cmp .ogt x y == 1#1) = decide (y < x) := by
  unfold Ideal.cmp; by_cases h : y < x <;> simp [h]

/-- No position is listed twice. -/
theorem top_inj (f : Row) : Function.Injective (top f) := sortedFrom_injective _
/-- Every position is listed. -/
theorem top_surj (f : Row) : Function.Surjective (top f) := sortedFrom_surjective _

/-- The scores in sorted order do not increase. -/
theorem top_anti (f : Row) (i j : Fin 2048) (h : i ≤ j) : f (top f j) ≤ f (top f i) := by
  rcases h.lt_or_eq with h | rfl
  · have := sortedFrom_noInversion (fun a b => Ideal.cmp .ogt (f a) (f b) == 1#1)
      (fun a b => Ideal.cmp .ogt (f a) (f b) == 1#1)
      (fun a b hab => by rw [cmp_ogt] at *; simp only [decide_eq_true_eq, decide_eq_false_iff_not, not_lt] at *; exact hab.le)
      (fun a b hab => hab)
      (fun a b c h1 h2 => by
        rw [cmp_ogt] at *; simp only [decide_eq_false_iff_not, not_lt] at *; exact h1.trans h2) i j h
    rw [cmp_ogt] at this
    exact not_lt.1 (of_decide_eq_false this)
  · exact le_rfl

/-- The greatest score is the first in sorted order. -/
theorem mx_eq (f : Row) : mx f = f (top f 0) := by
  refine le_antisymm ?_ ?_
  · refine (Finset.fold_max_le _).2 ⟨bot_le, fun m _ => ?_⟩
    obtain ⟨j, rfl⟩ := top_surj f m
    exact top_anti f 0 j (Fin.zero_le _)
  · exact Finset.le_fold_max _ |>.2 (Or.inr ⟨_, Finset.mem_univ _, le_rfl⟩)

/-- No score exceeds the greatest. -/
theorem le_mx (f : Row) (m : Fin 2048) : f m ≤ mx f :=
  (Finset.le_fold_max _).2 (Or.inr ⟨_, Finset.mem_univ _, le_rfl⟩)
/-- No score is below the least. -/
theorem mn_le (f : Row) (m : Fin 2048) : mn f ≤ f m :=
  (Finset.fold_min_le _).2 (Or.inr ⟨_, Finset.mem_univ _, le_rfl⟩)

/-- The least score is one of the scores. -/
theorem mn_mem (f : Row) : ∃ m, mn f = f m := by
  refine ⟨top f ⟨2047, by omega⟩, le_antisymm (mn_le f _) ?_⟩
  refine (Finset.le_fold_min _).2 ⟨le_top, fun m _ => ?_⟩
  obtain ⟨j, rfl⟩ := top_surj f m
  exact top_anti f j _ (by rw [Fin.le_def]; show j.1 ≤ 2047; omega)

/-- At least 512 scores reach `x` exactly if the 512th greatest does. -/
theorem cK_le_cnt (f : Row) (x : EReal) : cK ≤ cnt f x ↔ x ≤ f (top f ⟨511, by omega⟩) := by
  have hc : cnt f x = (((Finset.univ.filter fun m => x ≤ f m).card : ℝ) : EReal) := by
    unfold cnt
    rw [Finset.sum_boole]; rfl
  rw [hc, cK_val, EReal.coe_le_coe_iff]
  have : ((512 : ℝ) ≤ ((Finset.univ.filter fun m => x ≤ f m).card : ℝ))
      ↔ 512 ≤ (Finset.univ.filter fun m => x ≤ f m).card := by exact_mod_cast Iff.rfl
  rw [this]
  constructor
  · intro h
    by_contra hx
    rw [not_le] at hx
    have hsub : (Finset.univ.filter fun m => x ≤ f m)
        ⊆ (Finset.univ.filter fun j : Fin 2048 => j.1 < 511).image (top f) := by
      intro m hm
      obtain ⟨j, rfl⟩ := top_surj f m
      have hm' : x ≤ f (top f j) := by simpa using hm
      refine Finset.mem_image.2 ⟨j, ?_, rfl⟩
      simp only [Finset.mem_filter, Finset.mem_univ, true_and]
      by_contra hj
      exact absurd (hm'.trans (top_anti f ⟨511, by omega⟩ j (by rw [Fin.le_def]; show 511 ≤ j.1; omega))) (not_le.2 hx)
    have hcard := (Finset.card_le_card hsub).trans Finset.card_image_le
    have h511 : (Finset.univ.filter fun j : Fin 2048 => j.1 < 511).card = 511 := by
      rw [Fin.card_filter_val_lt]; rfl
    omega
  · intro h
    have hsub : (Finset.univ.filter fun j : Fin 2048 => j.1 < 512).image (top f)
        ⊆ Finset.univ.filter fun m => x ≤ f m := by
      intro m hm
      obtain ⟨j, hj, rfl⟩ := Finset.mem_image.1 hm
      simp only [Finset.mem_filter, Finset.mem_univ, true_and] at hj ⊢
      exact h.trans (top_anti f j ⟨511, by omega⟩ (by rw [Fin.le_def]; show j.1 ≤ 511; omega))
    have hcard := Finset.card_le_card hsub
    rw [Finset.card_image_of_injective _ (top_inj f), Fin.card_filter_val_lt] at hcard
    simpa using hcard

/-! ## The halving -/

/-- Every score of a separated row is a real number. -/
theorem real_of_gap (f : Row) (h : Gap f) : ∃ g : Fin 2048 → ℝ, ∀ m, f m = (g m : EReal) := by
  have h1 : mx f ≠ ⊤ := by
    intro hx
    unfold Gap at h
    rw [hx] at h
    rcases eq_or_ne (mn f) ⊤ with hn | hn
    · have e : ∀ m, f m = ⊤ := fun m => top_le_iff.1 (hn ▸ mn_le f m)
      rw [e, e, hn] at h
      have hs : (0 : EReal) < cS := by rw [cS_val]; exact_mod_cast (by positivity)
      rw [show ((⊤ : EReal) - ⊤) = ⊥ from rfl, EReal.bot_mul_of_pos hs] at h
      exact lt_irrefl _ h
    · rw [EReal.top_sub hn] at h
      exact not_top_lt h
  have h2 : mn f ≠ ⊥ := by
    intro hn
    unfold Gap at h
    rw [hn] at h
    rcases eq_or_ne (mx f) ⊥ with hx | hx
    · have e : ∀ m, f m = ⊥ := fun m => le_bot_iff.1 (hx ▸ le_mx f m)
      rw [e, e, hx] at h
      have hs : (0 : EReal) < cS := by rw [cS_val]; exact_mod_cast (by positivity)
      rw [show ((⊥ : EReal) - ⊥) = ⊥ from rfl, EReal.bot_mul_of_pos hs] at h
      exact lt_irrefl _ h
    · rw [EReal.sub_bot hx] at h
      exact not_top_lt h
  refine ⟨fun m => (f m).toReal, fun m => (EReal.coe_toReal ?_ ?_).symm⟩
  · intro e; exact h1 (top_le_iff.1 (e ▸ le_mx f m))
  · intro e; exact h2 (le_bot_iff.1 (e ▸ mn_le f m))

/-- After `k` halvings of the row's range the lower end is at most the 512th greatest score, and the upper end is the
    greatest score or above the 512th; the length is the range over 2^k. -/
theorem bis_inv (f : Row) (g : Fin 2048 → ℝ) (hg : ∀ m, f m = (g m : EReal)) (M m0 : ℝ) (hM : mx f = M) (hm : mn f = m0)
    (k : ℕ) : ∃ lo hi : ℝ, bis f k = ((lo : EReal), (hi : EReal)) ∧ lo ≤ g (top f ⟨511, by omega⟩)
      ∧ (hi = M ∨ g (top f ⟨511, by omega⟩) < hi) ∧ hi - lo = (M - m0) / 2 ^ k := by
  induction k with
  | zero =>
    refine ⟨m0, M, by rw [bis, hM, hm], ?_, Or.inl rfl, by simp⟩
    have := mn_le f (top f ⟨511, by omega⟩)
    rw [hm, hg] at this
    exact_mod_cast this
  | succ k ih =>
    obtain ⟨lo, hi, e, h1, h2, h3⟩ := ih
    have hmid : cHalf * ((lo : EReal) + (hi : EReal)) = (((lo + hi) / 2 : ℝ) : EReal) := by
      rw [cHalf_val, ← EReal.coe_add, ← EReal.coe_mul]; congr 1; ring
    have hlen : (M - m0) / 2 ^ (k + 1) = (M - m0) / 2 ^ k / 2 := by rw [pow_succ]; field_simp
    rw [bis, e, step]
    simp only [hmid]
    by_cases hc : cK ≤ cnt f (((lo + hi) / 2 : ℝ) : EReal)
    · rw [if_pos hc]
      refine ⟨(lo + hi) / 2, hi, rfl, ?_, h2, by rw [hlen, ← h3]; ring⟩
      rw [cK_le_cnt, hg] at hc
      exact_mod_cast hc
    · rw [if_neg hc]
      refine ⟨lo, (lo + hi) / 2, rfl, h1, Or.inr ?_, by rw [hlen, ← h3]; ring⟩
      rw [cK_le_cnt, hg, not_le] at hc
      exact_mod_cast hc

/-- On a separated row the halving keeps exactly the 512 greatest scores. -/
theorem thr_iff (f : Row) (h : Gap f) (m : Fin 2048) : (bis f 22).1 ≤ f m ↔ Kept f m := by
  obtain ⟨g, hg⟩ := real_of_gap f h
  obtain ⟨m0', hm0⟩ := mn_mem f
  have hM := mx_eq f
  rw [hg] at hM hm0
  obtain ⟨lo, hi, e, h1, h2, h3⟩ := bis_inv f g hg _ _ hM hm0 22
  unfold Gap at h
  rw [hM, hm0, hg, hg, cS_val, ← EReal.coe_sub, ← EReal.coe_sub, ← EReal.coe_mul, EReal.coe_lt_coe_iff] at h
  have hlo : g (top f ⟨512, by omega⟩) < lo := by
    by_contra hc
    rw [not_lt] at hc
    have hA : g (top f ⟨511, by omega⟩) ≤ hi := by
      rcases h2 with h2 | h2
      · rw [h2]
        have := top_anti f 0 ⟨511, by omega⟩ (Fin.zero_le _)
        rw [hg, hg] at this
        exact_mod_cast this
      · exact h2.le
    have : (g (top f 0) - g m0') = (hi - lo) * 2 ^ 22 := by rw [h3]; field_simp
    rw [this] at h
    have h4 : hi - lo < g (top f ⟨511, by omega⟩) - g (top f ⟨512, by omega⟩) :=
      lt_of_mul_lt_mul_right h (by positivity)
    linarith
  rw [e]
  obtain ⟨j, rfl⟩ := top_surj f m
  show (lo : EReal) ≤ _ ↔ _
  rw [hg, EReal.coe_le_coe_iff]
  constructor
  · intro hl
    refine ⟨j, ?_, rfl⟩
    by_contra hj
    have := top_anti f ⟨512, by omega⟩ j (by rw [Fin.le_def]; show 512 ≤ j.1; omega)
    rw [hg, hg, EReal.coe_le_coe_iff] at this
    linarith
  · rintro ⟨j', hj', e'⟩
    have := top_inj f e'
    subst this
    have := top_anti f j' ⟨511, by omega⟩ (by rw [Fin.le_def]; show j'.1 ≤ 511; omega)
    rw [hg, hg, EReal.coe_le_coe_iff] at this
    linarith

/-- The two exponentials of a separated row are equal. -/
theorem eR_eq_eK (f : Row) (h : Gap f) (m : Fin 2048) : eR f m = eK f m := by
  have hmsk : mx (msk f) = mx f := by
    refine le_antisymm ?_ ?_
    · refine (Finset.fold_max_le _).2 ⟨bot_le, fun m _ => ?_⟩
      unfold msk
      split
      · exact le_mx f m
      · exact bot_le
    · rw [mx_eq f]
      have : msk f (top f 0) = f (top f 0) := if_pos ⟨0, by decide, rfl⟩
      rw [← this]
      exact le_mx _ _
  have hr : ∃ r : ℝ, mx f = r := by
    obtain ⟨g, hg⟩ := real_of_gap f h
    exact ⟨_, (mx_eq f).trans (hg _)⟩
  obtain ⟨r, hr⟩ := hr
  unfold eR eK
  rw [hmsk, max_eq_right bot_le]
  by_cases hk : Kept f m
  · rw [if_pos ((thr_iff f h m).2 hk), msk, if_pos hk]
  · rw [if_neg (fun hh => hk ((thr_iff f h m).1 hh)), msk, if_neg hk, EReal.bot_sub, Ideal.exp_bot]

/-- The two attention means of a separated row are equal. -/
theorem attR_eq_attK (f v : Row) (h : Gap f) : attR f v = attK f v := by
  unfold attR attK
  simp only [eR_eq_eK f h]
  exact Finset.sum_congr rfl fun m _ => mul_comm _ _

/-! ## The temperature in the queries -/

/-- A finite sum that is a real number has real terms only. -/
theorem real_of_sum {ι : Type} (s : Finset ι) (u : ι → EReal) (r : ℝ) (h : ∑ i ∈ s, u i = r) :
    ∀ i ∈ s, ∃ x : ℝ, u i = x := by
  classical
  induction s using Finset.induction_on generalizing r with
  | empty => intro i hi; simp at hi
  | insert a s ha ih =>
    rw [Finset.sum_insert ha] at h
    have h1 : u a ≠ ⊥ := by intro e; rw [e, EReal.bot_add] at h; exact EReal.bot_ne_coe _ h
    have h2 : ∑ i ∈ s, u i ≠ ⊥ := by intro e; rw [e, EReal.add_bot] at h; exact EReal.bot_ne_coe _ h
    have h3 : u a ≠ ⊤ := by intro e; rw [e, EReal.top_add_of_ne_bot h2] at h; exact EReal.top_ne_coe _ h
    have h4 : ∑ i ∈ s, u i ≠ ⊤ := by intro e; rw [e, EReal.add_top_of_ne_bot h1] at h; exact EReal.top_ne_coe _ h
    intro i hi
    rcases Finset.mem_insert.1 hi with rfl | hi
    · exact ⟨_, (EReal.coe_toReal h3 h1).symm⟩
    · exact ih _ (EReal.coe_toReal h4 h2).symm i hi

/-- A finite sum of real numbers is the same in the extended reals. -/
theorem coe_sum {ι : Type} (s : Finset ι) (y : ι → ℝ) : ((∑ i ∈ s, y i : ℝ) : EReal) = ∑ i ∈ s, (y i : EReal) := by
  classical
  induction s using Finset.induction_on with
  | empty => simp
  | insert a s ha ih => rw [Finset.sum_insert ha, Finset.sum_insert ha, EReal.coe_add, ih]

/-- On a separated row of scores with the temperature outside, moving the temperature to the queries changes no score. -/
theorem temp_row (u : Fin 16 → EReal) (w : Fin 16 → Row) (t : EReal) (h : Gap fun m => (∑ c, u c * w c m) * t)
    (m : Fin 2048) : ∑ c, u c * t * w c m = (∑ c, u c * w c m) * t := by
  obtain ⟨g, hg⟩ := real_of_gap _ h
  have hne : ¬ ∀ m, (∑ c, u c * w c m) * t = 0 := by
    intro hz
    unfold Gap at h
    have e : (fun m => (∑ c, u c * w c m) * t) = fun _ => (0 : EReal) := funext hz
    rw [e] at h
    have hm0 : mn (fun _ => (0 : EReal)) = 0 := (mn_mem _).choose_spec
    rw [mx_eq, hm0] at h
    simp at h
  have ht : ∃ x : ℝ, t = x ∧ x ≠ 0 := by
    induction t with
    | bot =>
      exfalso
      refine hne fun m => ?_
      by_contra hm
      have h0 : (∑ c, u c * w c m) ≠ 0 := fun e => hm (by rw [e, zero_mul])
      rcases lt_or_gt_of_ne h0 with h0 | h0
      · exact EReal.top_ne_coe _ ((EReal.mul_bot_of_neg h0).symm.trans (hg m))
      · exact EReal.bot_ne_coe _ ((EReal.mul_bot_of_pos h0).symm.trans (hg m))
    | top =>
      exfalso
      refine hne fun m => ?_
      by_contra hm
      have h0 : (∑ c, u c * w c m) ≠ 0 := fun e => hm (by rw [e, zero_mul])
      rcases lt_or_gt_of_ne h0 with h0 | h0
      · exact EReal.bot_ne_coe _ ((EReal.mul_top_of_neg h0).symm.trans (hg m))
      · exact EReal.top_ne_coe _ ((EReal.mul_top_of_pos h0).symm.trans (hg m))
    | coe x =>
      refine ⟨x, rfl, ?_⟩
      rintro rfl
      exact hne fun m => by simp
  obtain ⟨x, rfl, hx⟩ := ht
  have hs : ∃ r : ℝ, ∑ c, u c * w c m = r := by
    have hm := hg m
    revert hm
    show (∑ c, u c * w c m) * (x : EReal) = _ → _
    generalize ∑ c, u c * w c m = S
    intro hm
    induction S with
    | coe r => exact ⟨r, rfl⟩
    | bot =>
      rcases lt_or_gt_of_ne hx with h0 | h0
      · rw [EReal.bot_mul_coe_of_neg h0] at hm; exact absurd hm (EReal.top_ne_coe _)
      · rw [EReal.bot_mul_coe_of_pos h0] at hm; exact absurd hm (EReal.bot_ne_coe _)
    | top =>
      rcases lt_or_gt_of_ne hx with h0 | h0
      · rw [EReal.top_mul_coe_of_neg h0] at hm; exact absurd hm (EReal.bot_ne_coe _)
      · rw [EReal.top_mul_coe_of_pos h0] at hm; exact absurd hm (EReal.top_ne_coe _)
  obtain ⟨r, hr⟩ := hs
  have hc := real_of_sum Finset.univ _ r hr
  choose y hy using fun c => hc c (Finset.mem_univ c)
  have e1 : ∀ c, u c * (x : EReal) * w c m = ((y c * x : ℝ) : EReal) := fun c => by
    rw [mul_right_comm, hy c, EReal.coe_mul]
  have e2 : ∀ c, u c * w c m = (y c : EReal) := hy
  simp only [e1, e2]
  rw [← coe_sum, ← coe_sum, ← EReal.coe_mul, Finset.sum_mul]

/-! ## Reciprocal roots -/

/-- The kernel's layer norm multiplies by the reciprocal root where the reference divides by the root. -/
theorem mul_rsqrt (x v : EReal) (hv : 0 < v) : x * Ideal.rsqrt v = Ideal.div x (Ideal.sqrt v) := by
  induction v with
  | bot => exact absurd hv (by simp)
  | top => simp [Ideal.div]
  | coe r =>
    have hr : 0 < r := by exact_mod_cast hv
    rw [Ideal.rsqrt_coe, Ideal.sqrt_coe]
    have hs : 0 < Real.sqrt r := Real.sqrt_pos.2 hr
    rw [if_neg (by linarith), if_neg hr.ne', if_neg (by linarith), Ideal.div, if_neg (by exact_mod_cast hs.ne')]
    rw [EReal.coe_inv]

/-- A product of an extended real with itself is not negative. -/
theorem sq_nonneg' (x : EReal) : 0 ≤ x * x := by
  rcases le_total 0 x with h | h
  · exact mul_nonneg h h
  · exact EReal.mul_nonneg_iff.2 (Or.inr ⟨h, h⟩)

/-- The constant 128. -/
theorem cN_val : cN = ((128 : ℝ) : EReal) := by
  simp [cN, Ideal.ofBits, Ideal.ieee, -EReal.coe_mul]; norm_num

/-- The layer norm's offset is positive. -/
theorem cE5_pos : 0 < cE5 := by
  simp [cE5, Ideal.ofBits, Ideal.ieee, -EReal.coe_mul]

/-- The variance with its offset is positive. -/
theorem vari_pos (u : Fin 128 → EReal) : 0 < vari u + cE5 := by
  have h : 0 ≤ vari u := by
    unfold vari
    have hs : 0 ≤ ∑ c, ctr u c * ctr u c := Finset.sum_nonneg fun c _ => sq_nonneg' _
    rw [Ideal.div, cN_val, if_neg (by norm_num)]
    refine mul_nonneg hs ?_
    rw [← EReal.coe_inv]
    exact_mod_cast (by norm_num)
  calc (0 : EReal) < cE5 := cE5_pos
    _ = 0 + cE5 := (zero_add _).symm
    _ ≤ vari u + cE5 := by gcongr

end Block

end

end
-- ==== Proof.KOut.lean ====
/-
  The other regions' output blocks at an index: layer norm and mixing, the two depthwise convolutions, the
  normalisation of queries and keys, and the projection with the second layer norm.
-/
module

public import proofs.«01_k».proof.Proof.Gen.KernelIdeal.Frame
public import Idealize.ShloMosaic.Lib.Pipeline.ValueKit
public import proofs.«01_k».proof.Proof.Bisect

@[expose] public section

set_option maxRecDepth 16384

noncomputable section

namespace Cert.KernelIdeal.Val

open Idealize.ShloMosaic Idealize.ShloMosaic.TcCoe Idealize.SL.Sem
open Cert.KernelIdeal Cert.KernelIdeal.Gen

/-- Layer norm with the reciprocal root. -/
theorem ln_rsqrt (g b u : Fin 128 → EReal) (c : Fin 128) :
    Block.ctr u c * Ideal.rsqrt (Block.vari u + Block.cE5) * g c + b c = Block.lnv g b u c := by
  rw [Block.lnv, Block.mul_rsqrt _ _ (Block.vari_pos u)]

/-- An entry of the first call's result: the normalised channels of a position times the mixing matrix. -/
theorem pay0_apply (x0 : Vec Ideal S2048x128 .f32) (x1 x2 : Vec Ideal S1x128 .f32) (x3 : Vec Ideal S128x384 .f32)
    (r : Fin 2048) (q : Fin 384) : k0_pay1 x0 x1 x2 x3 (ix2 r q)
      = ∑ k : Fin 128, Block.lnv (fun c => x1 (ix2 0 c)) (fun c => x2 (ix2 0 c)) (fun c => x0 (ix2 r c)) k * x3 (ix2 k q) := by
  simp only [← ln_rsqrt]
  unfold Block.vari Block.ctr Block.mean
  pointwise [k0_pay1]

/-- The first region's block. -/
theorem out0_apply (x0 : Vec Ideal S2048x128 .f32) (x1 x2 : Vec Ideal S1x128 .f32) (x3 : Vec Ideal S128x384 .f32)
    (r : Fin 2048) (q : Fin 384) : out0_4 x0 x1 x2 x3 (ix2 r q)
      = ∑ k : Fin 128, Block.lnv (fun c => x1 (ix2 0 c)) (fun c => x2 (ix2 0 c)) (fun c => x0 (ix2 r c)) k * x3 (ix2 k q) := by
  refine Eq.trans ?_ (pay0_apply x0 x1 x2 x3 r q)
  unfold out0_4
  refine (congrFun (View.canon_cons_unit_lit _ _ _ (by decide)) _).trans ?_
  rw [View.ld_unit_lit _ x0 (by decide), View.ld_unit_lit _ x1 (by decide), View.ld_unit_lit _ x2 (by decide),
    View.ld_unit_lit _ x3 (by decide)]

/-- The first convolution's block. -/
theorem out1_apply (x0 : Vec Ideal S1x34x34x384 .f32) (x1 : Vec Ideal S9x384 .f32) (h v : Fin 32) (c : Fin 384) :
    out1_2 x0 x1 (ix4 0 h v c)
      = x0 (ix4 0 ⟨h + 0, by omega⟩ ⟨v + 0, by omega⟩ c) * x1 (ix2 0 c)
      + x0 (ix4 0 ⟨h + 0, by omega⟩ ⟨v + 1, by omega⟩ c) * x1 (ix2 1 c)
      + x0 (ix4 0 ⟨h + 0, by omega⟩ ⟨v + 2, by omega⟩ c) * x1 (ix2 2 c)
      + x0 (ix4 0 ⟨h + 1, by omega⟩ ⟨v + 0, by omega⟩ c) * x1 (ix2 3 c)
      + x0 (ix4 0 ⟨h + 1, by omega⟩ ⟨v + 1, by omega⟩ c) * x1 (ix2 4 c)
      + x0 (ix4 0 ⟨h + 1, by omega⟩ ⟨v + 2, by omega⟩ c) * x1 (ix2 5 c)
      + x0 (ix4 0 ⟨h + 2, by omega⟩ ⟨v + 0, by omega⟩ c) * x1 (ix2 6 c)
      + x0 (ix4 0 ⟨h + 2, by omega⟩ ⟨v + 1, by omega⟩ c) * x1 (ix2 7 c)
      + x0 (ix4 0 ⟨h + 2, by omega⟩ ⟨v + 2, by omega⟩ c) * x1 (ix2 8 c) := by
  unfold out1_2
  refine (congrFun (View.canon_cons_unit_lit _ _ _ (by decide)) _).trans ?_
  pointwise [k1_pay1, k1_pay2, k1_pay3, k1_pay4]
  simp only [Nat.add_comm 1, Nat.add_comm 2]

/-- An entry of the normalised queries, times the temperature. -/
theorem pay2q_apply (x0 : Vec Ideal S1x16x2048 .f32) (x2 : Vec Ideal S1x1x1 .f32) (c : Fin 16) (n : Fin 2048) :
    k2_pay1 x0 x2 (ix3 0 c n) = Ideal.div (x0 (ix3 0 c n))
      (max (Ideal.sqrt (∑ l : Fin 2048, x0 (ix3 0 c l) * x0 (ix3 0 c l))) Block.cE12) * x2 (ix3 0 0 0) := by
  pointwise [k2_pay1]

/-- An entry of the normalised keys. -/
theorem pay2k_apply (x1 : Vec Ideal S1x16x2048 .f32) (c : Fin 16) (n : Fin 2048) :
    k2_pay2 x1 (ix3 0 c n) = Ideal.div (x1 (ix3 0 c n))
      (max (Ideal.sqrt (∑ l : Fin 2048, x1 (ix3 0 c l) * x1 (ix3 0 c l))) Block.cE12) := by
  pointwise [k2_pay2]

/-- The normalised queries' block. -/
theorem out2q_apply (x0 x1 : Vec Ideal S1x16x2048 .f32) (x2 : Vec Ideal S1x1x1 .f32) (c : Fin 16) (n : Fin 2048) :
    out2_3 x0 x1 x2 (ix3 0 c n) = Ideal.div (x0 (ix3 0 c n))
      (max (Ideal.sqrt (∑ l : Fin 2048, x0 (ix3 0 c l) * x0 (ix3 0 c l))) Block.cE12) * x2 (ix3 0 0 0) := by
  refine Eq.trans ?_ (pay2q_apply x0 x2 c n)
  unfold out2_3
  refine (congrFun (View.canon_cons_unit_lit _ _ _ (by decide)) _).trans ?_
  rw [View.ld_unit_lit _ x0 (by decide), View.ld_unit_lit _ x2 (by decide)]

/-- The normalised keys' block. -/
theorem out2k_apply (x0 x1 : Vec Ideal S1x16x2048 .f32) (x2 : Vec Ideal S1x1x1 .f32) (c : Fin 16) (n : Fin 2048) :
    out2_4 x0 x1 x2 (ix3 0 c n) = Ideal.div (x1 (ix3 0 c n))
      (max (Ideal.sqrt (∑ l : Fin 2048, x1 (ix3 0 c l) * x1 (ix3 0 c l))) Block.cE12) := by
  refine Eq.trans ?_ (pay2k_apply x1 c n)
  unfold out2_4
  refine (congrFun (View.canon_cons_unit_lit _ _ _ (by decide)) _).trans ?_
  rw [View.ld_unit_lit _ x1 (by decide)]

/-- An entry of the first residual sum. -/
theorem pay4x_apply (x0 x1 : Vec Ideal S2048x128 .f32) (x2 : Vec Ideal S128x128 .f32) (r : Fin 2048) (c : Fin 128) :
    k4_pay1 x0 x2 x1 (ix2 r c) = x1 (ix2 r c) + ∑ k : Fin 128, x0 (ix2 r k) * x2 (ix2 c k) := by
  pointwise [k4_pay1]

/-- An entry of the feed-forward's first product. -/
theorem pay4h_apply (x0 x1 : Vec Ideal S2048x128 .f32) (x2 : Vec Ideal S128x128 .f32) (x3 x4 : Vec Ideal S1x128 .f32)
    (x5 : Vec Ideal S64x128 .f32) (r : Fin 2048) (f : Fin 64) : k4_pay2 x0 x2 x1 x3 x4 x5 (ix2 r f)
      = ∑ k : Fin 128, Block.lnv (fun c => x3 (ix2 0 c)) (fun c => x4 (ix2 0 c))
          (fun c => k4_pay1 x0 x2 x1 (ix2 r c)) k * x5 (ix2 f k) := by
  unfold k4_pay2
  generalize k4_pay1 x0 x2 x1 = y
  simp only [← ln_rsqrt]
  unfold Block.vari Block.ctr Block.mean
  pointwise

/-- The first residual sum's block. -/
theorem out4x_apply (x0 x1 : Vec Ideal S2048x128 .f32) (x2 : Vec Ideal S128x128 .f32) (x3 x4 : Vec Ideal S1x128 .f32)
    (x5 : Vec Ideal S64x128 .f32) (r : Fin 2048) (c : Fin 128) :
    out4_6 x0 x1 x2 x3 x4 x5 (ix2 r c) = x1 (ix2 r c) + ∑ k : Fin 128, x0 (ix2 r k) * x2 (ix2 c k) := by
  refine Eq.trans ?_ (pay4x_apply x0 x1 x2 r c)
  unfold out4_6
  refine (congrFun (View.canon_cons_unit_lit _ _ _ (by decide)) _).trans ?_
  rw [View.ld_unit_lit _ x0 (by decide), View.ld_unit_lit _ x1 (by decide), View.ld_unit_lit _ x2 (by decide)]

/-- The feed-forward product's block. -/
theorem out4h_apply (x0 x1 : Vec Ideal S2048x128 .f32) (x2 : Vec Ideal S128x128 .f32) (x3 x4 : Vec Ideal S1x128 .f32)
    (x5 : Vec Ideal S64x128 .f32) (r : Fin 2048) (f : Fin 64) : out4_7 x0 x1 x2 x3 x4 x5 (ix2 r f)
      = ∑ k : Fin 128, Block.lnv (fun c => x3 (ix2 0 c)) (fun c => x4 (ix2 0 c))
          (fun c => x1 (ix2 r c) + ∑ k : Fin 128, x0 (ix2 r k) * x2 (ix2 c k)) k * x5 (ix2 f k) := by
  have e := pay4h_apply x0 x1 x2 x3 x4 x5 r f
  simp only [pay4x_apply] at e
  refine Eq.trans ?_ e
  unfold out4_7
  refine (congrFun (View.canon_cons_unit_lit _ _ _ (by decide)) _).trans ?_
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]

/-- The last region's block. -/
theorem out5_apply (x0 : Vec Ideal S1x34x34x64 .f32) (x1 : Vec Ideal S9x64 .f32) (x2 : Vec Ideal S128x64 .f32)
    (x3 : Vec Ideal S1x1024x128 .f32) (h v : Fin 32) (c : Fin 128) :
    out5_4 x0 x1 x2 x3 (ix3 0 ⟨h * 32 + v, by omega⟩ c) = x3 (ix3 0 ⟨h * 32 + v, by omega⟩ c) + ∑ f : Fin 64, max (x0 (ix4 0 ⟨h + 0, by omega⟩ ⟨v + 0, by omega⟩ f) * x1 (ix2 0 f)
      + x0 (ix4 0 ⟨h + 0, by omega⟩ ⟨v + 1, by omega⟩ f) * x1 (ix2 1 f)
      + x0 (ix4 0 ⟨h + 0, by omega⟩ ⟨v + 2, by omega⟩ f) * x1 (ix2 2 f)
      + x0 (ix4 0 ⟨h + 1, by omega⟩ ⟨v + 0, by omega⟩ f) * x1 (ix2 3 f)
      + x0 (ix4 0 ⟨h + 1, by omega⟩ ⟨v + 1, by omega⟩ f) * x1 (ix2 4 f)
      + x0 (ix4 0 ⟨h + 1, by omega⟩ ⟨v + 2, by omega⟩ f) * x1 (ix2 5 f)
      + x0 (ix4 0 ⟨h + 2, by omega⟩ ⟨v + 0, by omega⟩ f) * x1 (ix2 6 f)
      + x0 (ix4 0 ⟨h + 2, by omega⟩ ⟨v + 1, by omega⟩ f) * x1 (ix2 7 f)
      + x0 (ix4 0 ⟨h + 2, by omega⟩ ⟨v + 2, by omega⟩ f) * x1 (ix2 8 f)) 0 * x2 (ix2 c f) := by
  unfold out5_4
  refine (congrFun (View.canon_cons_unit_lit _ _ _ (by decide)) _).trans ?_
  pointwise [k5_pay1, k5_pay2, k5_pay3, k5_pay4]
  simp only [Nat.add_comm 1, Nat.add_comm 2]

end Cert.KernelIdeal.Val

end

end
-- ==== Proof.KArr0.lean ====
/-
  The first and the fifth region's result arrays.
-/
module

public import proofs.«01_k».proof.Proof.KOut

@[expose] public section

set_option maxRecDepth 16384

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The region's one point reads and writes whole arrays. -/
theorem idx0 : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

/-- The block of window 0 of call 0 that a grid point reads, as its array's entries. -/
theorem blk0_0 (c : Dev nD) (t : Fin cfg0.N) : iblk0 V c 0 t = V c main_v1 := by
  obtain ⟨e0, e1, e2, e3, e4⟩ := idx0 t
  funext y
  idx_vars y
  blk_ext [iblk0, e0]

/-- The block of window 1 of call 0 that a grid point reads, as its array's entries. -/
theorem blk0_1 (c : Dev nD) (t : Fin cfg0.N) : iblk0 V c 1 t = V c main_v15 := by
  obtain ⟨e0, e1, e2, e3, e4⟩ := idx0 t
  funext y
  idx_vars y
  blk_ext [iblk0, e1]

/-- The block of window 2 of call 0 that a grid point reads, as its array's entries. -/
theorem blk0_2 (c : Dev nD) (t : Fin cfg0.N) : iblk0 V c 2 t = V c main_v16 := by
  obtain ⟨e0, e1, e2, e3, e4⟩ := idx0 t
  funext y
  idx_vars y
  blk_ext [iblk0, e2]

/-- The block of window 3 of call 0 that a grid point reads, as its array's entries. -/
theorem blk0_3 (c : Dev nD) (t : Fin cfg0.N) : iblk0 V c 3 t = V c main_v14 := by
  obtain ⟨e0, e1, e2, e3, e4⟩ := idx0 t
  funext y
  idx_vars y
  blk_ext [iblk0, e3]

/-- Result array 4 of the region. -/
theorem arr0_4 (c : Dev nD) : (dat0 V c).arrAt 4 cfg0.N
    = out0_4 (V c main_v1) (V c main_v15) (V c main_v16) (V c main_v14) := by
  refine (dat0 V c).arrAt_eq_of_covers 4 _ (by decide +kernel) fun t hf y => ?_
  obtain ⟨e0, e1, e2, e3, e4⟩ := idx0 t
  blk_simp
  rw [after0_4, blk0_0, blk0_1, blk0_2, blk0_3]
  idx_vars y
  refine congrArg _ ?_
  blk_ext [e4]

/-- The region's one point reads and writes whole arrays. -/
theorem idx4 : ∀ t : Fin cfg4.N, win4_0.index t = ![0, 0]
    ∧ win4_1.index t = ![0, 0]
    ∧ win4_2.index t = ![0, 0]
    ∧ win4_3.index t = ![0, 0]
    ∧ win4_4.index t = ![0, 0]
    ∧ win4_5.index t = ![0, 0]
    ∧ win4_6.index t = ![0, 0]
    ∧ win4_7.index t = ![0, 0] :=
  (by decide +kernel : ∀ t : Fin grid4.N, _)

/-- The block of window 0 of call 4 that a grid point reads, as its array's entries. -/
theorem blk4_0 (c : Dev nD) (t : Fin cfg4.N) : iblk4 V c 0 t = V c main_v43 := by
  obtain ⟨e0, e1, e2, e3, e4, e5, e6, e7⟩ := idx4 t
  funext y
  idx_vars y
  blk_ext [iblk4, e0]

/-- The block of window 1 of call 4 that a grid point reads, as its array's entries. -/
theorem blk4_1 (c : Dev nD) (t : Fin cfg4.N) : iblk4 V c 1 t = V c main_v1 := by
  obtain ⟨e0, e1, e2, e3, e4, e5, e6, e7⟩ := idx4 t
  funext y
  idx_vars y
  blk_ext [iblk4, e1]

/-- The block of window 2 of call 4 that a grid point reads, as its array's entries. -/
theorem blk4_2 (c : Dev nD) (t : Fin cfg4.N) : iblk4 V c 2 t = V c main_arg6 := by
  obtain ⟨e0, e1, e2, e3, e4, e5, e6, e7⟩ := idx4 t
  funext y
  idx_vars y
  blk_ext [iblk4, e2]

/-- The block of window 3 of call 4 that a grid point reads, as its array's entries. -/
theorem blk4_3 (c : Dev nD) (t : Fin cfg4.N) : iblk4 V c 3 t = V c main_v44 := by
  obtain ⟨e0, e1, e2, e3, e4, e5, e6, e7⟩ := idx4 t
  funext y
  idx_vars y
  blk_ext [iblk4, e3]

/-- The block of window 4 of call 4 that a grid point reads, as its array's entries. -/
theorem blk4_4 (c : Dev nD) (t : Fin cfg4.N) : iblk4 V c 4 t = V c main_v45 := by
  obtain ⟨e0, e1, e2, e3, e4, e5, e6, e7⟩ := idx4 t
  funext y
  idx_vars y
  blk_ext [iblk4, e4]

/-- The block of window 5 of call 4 that a grid point reads, as its array's entries. -/
theorem blk4_5 (c : Dev nD) (t : Fin cfg4.N) : iblk4 V c 5 t = V c main_arg9 := by
  obtain ⟨e0, e1, e2, e3, e4, e5, e6, e7⟩ := idx4 t
  funext y
  idx_vars y
  blk_ext [iblk4, e5]

/-- Result array 6 of the region. -/
theorem arr4_6 (c : Dev nD) : (dat4 V c).arrAt 6 cfg4.N
    = out4_6 (V c main_v43) (V c main_v1) (V c main_arg6) (V c main_v44) (V c main_v45) (V c main_arg9) := by
  refine (dat4 V c).arrAt_eq_of_covers 6 _ (by decide +kernel) fun t hf y => ?_
  obtain ⟨e0, e1, e2, e3, e4, e5, e6, e7⟩ := idx4 t
  blk_simp
  rw [after4_6, blk4_0, blk4_1, blk4_2, blk4_3, blk4_4, blk4_5]
  idx_vars y
  refine congrArg _ ?_
  blk_ext [e6]

/-- Result array 7 of the region. -/
theorem arr4_7 (c : Dev nD) : (dat4 V c).arrAt 7 cfg4.N
    = out4_7 (V c main_v43) (V c main_v1) (V c main_arg6) (V c main_v44) (V c main_v45) (V c main_arg9) := by
  refine (dat4 V c).arrAt_eq_of_covers 7 _ (by decide +kernel) fun t hf y => ?_
  obtain ⟨e0, e1, e2, e3, e4, e5, e6, e7⟩ := idx4 t
  blk_simp
  rw [after4_7, blk4_0, blk4_1, blk4_2, blk4_3, blk4_4, blk4_5]
  idx_vars y
  refine congrArg _ ?_
  blk_ext [e7]

end Cert.KernelIdeal.Val

end

end
-- ==== Proof.KArr1.lean ====
/-
  The second region's result array.
-/
module

public import proofs.«01_k».proof.Proof.KOut

@[expose] public section

set_option maxRecDepth 16384

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The region's points are the batch entries. -/
theorem idx1 : ∀ t : Fin cfg1.N, win1_0.index t = ![(grid1.coords t 0).val, 0, 0, 0]
    ∧ win1_1.index t = ![0, 0]
    ∧ win1_2.index t = ![(grid1.coords t 0).val, 0, 0, 0] :=
  (by decide +kernel : ∀ t : Fin grid1.N, _)

/-- The block of window 0 of call 1 that a grid point reads, as its array's entries. -/
theorem blk1_0 (c : Dev nD) (t : Fin cfg1.N) (b : Fin 2) (hb : b.val = (grid1.coords t 0).val) :
    iblk1 V c 0 t = fun z => V c main_v19 (ix4 b (z 1 : Fin 34) (z 2 : Fin 34) (z 3 : Fin 384)) := by
  obtain ⟨e0, e1, e2⟩ := idx1 t
  funext z
  idx_vars z
  obtain rfl : z0 = 0 := Subsingleton.elim _ _
  blk_ext [iblk1, e0, hb]

/-- The block of window 1 of call 1 that a grid point reads, as its array's entries. -/
theorem blk1_1 (c : Dev nD) (t : Fin cfg1.N) : iblk1 V c 1 t = V c main_v24 := by
  obtain ⟨e0, e1, e2⟩ := idx1 t
  funext z
  idx_vars z
  blk_ext [iblk1, e1]

/-- Result array 2 of the region, one batch entry at a time. -/
def G1_2 (x0 : FVec Ideal S2x34x34x384 .f32) (x1 : FVec Ideal S9x384 .f32) :
    FVec Ideal S2x32x32x384 .f32 := fun i =>
  out1_2 (F := Ideal) (fun y => x0 (ix4 (i 0 : Fin 2) (y 1 : Fin 34) (y 2 : Fin 34) (y 3 : Fin 384))) x1
    (ix4 0 (i 1 : Fin 32) (i 2 : Fin 32) (i 3 : Fin 384))

/-- The array that window 2 of call 1 leaves, as the call's formula of its inputs. -/
theorem arr1_2 (c : Dev nD) : (dat1 V c).arrAt 2 cfg1.N = G1_2 (V c main_v19) (V c main_v24) := by
  refine (dat1 V c).arrAt_eq_of_covers 2 _ (by decide +kernel) fun t hf y => ?_
  obtain ⟨e0, e1, e2⟩ := idx1 t
  blk_simp
  rw [after1_2]
  idx_vars y
  obtain rfl : y0 = 0 := Subsingleton.elim _ _
  have hb : ((win1_2.blk t).view.emb (ix4 0 y1 y2 y3) 0).val = (grid1.coords t 0).val := by
    blk_simp [e2]
    try simp
  rw [blk1_0 V c t _ hb, blk1_1 V c t]
  refine congrArg (out1_2 _ _) ?_
  blk_ext [e2]

end Cert.KernelIdeal.Val

end

end
-- ==== Proof.KArr2.lean ====
/-
  The third region's result arrays.
-/
module

public import proofs.«01_k».proof.Proof.KOut

@[expose] public section

set_option maxRecDepth 16384

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The region's points are the batch entries. -/
theorem idx2 : ∀ t : Fin cfg2.N, win2_0.index t = ![(grid2.coords t 0).val, 0, 0]
    ∧ win2_1.index t = ![(grid2.coords t 0).val, 0, 0]
    ∧ win2_2.index t = ![(grid2.coords t 0).val, 0, 0]
    ∧ win2_3.index t = ![(grid2.coords t 0).val, 0, 0]
    ∧ win2_4.index t = ![(grid2.coords t 0).val, 0, 0] :=
  (by decide +kernel : ∀ t : Fin grid2.N, _)

/-- The block of window 0 of call 2 that a grid point reads, as its array's entries. -/
theorem blk2_0 (c : Dev nD) (t : Fin cfg2.N) (b : Fin 8) (hb : b.val = (grid2.coords t 0).val) :
    iblk2 V c 0 t = fun z => V c main_v29 (ix3 b (z 1 : Fin 16) (z 2 : Fin 2048)) := by
  obtain ⟨e0, e1, e2, e3, e4⟩ := idx2 t
  funext z
  idx_vars z
  obtain rfl : z0 = 0 := Subsingleton.elim _ _
  blk_ext [iblk2, e0, hb]

/-- The block of window 1 of call 2 that a grid point reads, as its array's entries. -/
theorem blk2_1 (c : Dev nD) (t : Fin cfg2.N) (b : Fin 8) (hb : b.val = (grid2.coords t 0).val) :
    iblk2 V c 1 t = fun z => V c main_v32 (ix3 b (z 1 : Fin 16) (z 2 : Fin 2048)) := by
  obtain ⟨e0, e1, e2, e3, e4⟩ := idx2 t
  funext z
  idx_vars z
  obtain rfl : z0 = 0 := Subsingleton.elim _ _
  blk_ext [iblk2, e1, hb]

/-- The block of window 2 of call 2 that a grid point reads, as its array's entries. -/
theorem blk2_2 (c : Dev nD) (t : Fin cfg2.N) (b : Fin 8) (hb : b.val = (grid2.coords t 0).val) :
    iblk2 V c 2 t = fun z => V c main_v38 (ix3 b (z 1 : Fin 1) (z 2 : Fin 1)) := by
  obtain ⟨e0, e1, e2, e3, e4⟩ := idx2 t
  funext z
  idx_vars z
  obtain rfl : z0 = 0 := Subsingleton.elim _ _
  blk_ext [iblk2, e2, hb]

/-- Result array 3 of the region, one batch entry at a time. -/
def G2_3 (x0 : FVec Ideal S8x16x2048 .f32) (x1 : FVec Ideal S8x16x2048 .f32) (x2 : FVec Ideal S8x1x1 .f32) :
    FVec Ideal S8x16x2048 .f32 := fun i =>
  out2_3 (F := Ideal) (fun y => x0 (ix3 (i 0 : Fin 8) (y 1 : Fin 16) (y 2 : Fin 2048))) (fun y => x1 (ix3 (i 0 : Fin 8) (y 1 : Fin 16) (y 2 : Fin 2048))) (fun y => x2 (ix3 (i 0 : Fin 8) (y 1 : Fin 1) (y 2 : Fin 1)))
    (ix3 0 (i 1 : Fin 16) (i 2 : Fin 2048))

/-- The array that window 3 of call 2 leaves, as the call's formula of its inputs. -/
theorem arr2_3 (c : Dev nD) : (dat2 V c).arrAt 3 cfg2.N = G2_3 (V c main_v29) (V c main_v32) (V c main_v38) := by
  refine (dat2 V c).arrAt_eq_of_covers 3 _ (by decide +kernel) fun t hf y => ?_
  obtain ⟨e0, e1, e2, e3, e4⟩ := idx2 t
  blk_simp
  rw [after2_3]
  idx_vars y
  obtain rfl : y0 = 0 := Subsingleton.elim _ _
  have hb : ((win2_3.blk t).view.emb (ix3 0 y1 y2) 0).val = (grid2.coords t 0).val := by
    blk_simp [e3]
    try simp
  rw [blk2_0 V c t _ hb, blk2_1 V c t _ hb, blk2_2 V c t _ hb]
  refine congrArg (out2_3 _ _ _) ?_
  blk_ext [e3]

/-- Result array 4 of the region, one batch entry at a time. -/
def G2_4 (x0 : FVec Ideal S8x16x2048 .f32) (x1 : FVec Ideal S8x16x2048 .f32) (x2 : FVec Ideal S8x1x1 .f32) :
    FVec Ideal S8x16x2048 .f32 := fun i =>
  out2_4 (F := Ideal) (fun y => x0 (ix3 (i 0 : Fin 8) (y 1 : Fin 16) (y 2 : Fin 2048))) (fun y => x1 (ix3 (i 0 : Fin 8) (y 1 : Fin 16) (y 2 : Fin 2048))) (fun y => x2 (ix3 (i 0 : Fin 8) (y 1 : Fin 1) (y 2 : Fin 1)))
    (ix3 0 (i 1 : Fin 16) (i 2 : Fin 2048))

/-- The array that window 4 of call 2 leaves, as the call's formula of its inputs. -/
theorem arr2_4 (c : Dev nD) : (dat2 V c).arrAt 4 cfg2.N = G2_4 (V c main_v29) (V c main_v32) (V c main_v38) := by
  refine (dat2 V c).arrAt_eq_of_covers 4 _ (by decide +kernel) fun t hf y => ?_
  obtain ⟨e0, e1, e2, e3, e4⟩ := idx2 t
  blk_simp
  rw [after2_4]
  idx_vars y
  obtain rfl : y0 = 0 := Subsingleton.elim _ _
  have hb : ((win2_4.blk t).view.emb (ix3 0 y1 y2) 0).val = (grid2.coords t 0).val := by
    blk_simp [e4]
    try simp
  rw [blk2_0 V c t _ hb, blk2_1 V c t _ hb, blk2_2 V c t _ hb]
  refine congrArg (out2_4 _ _ _) ?_
  blk_ext [e4]

end Cert.KernelIdeal.Val

end

end
-- ==== Proof.K3.lean ====
/-
  The attention region's payload functions: 22 halvings of each row's score range, then the softmax over the scores at
  or above the lower end, times the values.
-/
module

public import proofs.«01_k».proof.Proof.Gen.KernelIdeal.Frame
public import proofs.«01_k».proof.Proof.Bisect

@[expose] public section

set_option maxRecDepth 16384

noncomputable section

namespace Cert.KernelIdeal.Val

open Idealize.ShloMosaic Idealize.ShloMosaic.TcCoe Idealize.SL.Sem
open Cert.KernelIdeal Cert.KernelIdeal.Gen

/-- A block of 512 rows of scores. -/
abbrev Sc := FVec Ideal S512x2048 .f32
/-- One number for each of the 512 rows. -/
abbrev Col := FVec Ideal S512x1 .f32

/-- The middle of the interval from the sum of its ends. -/
def vmid (u : Col) : Col := mulf (broadcast S512x1 (Scalar.ofBits .f32 0x3F000000#32)) u
/-- A column repeated along the rows. -/
def vbc (u : Col) : Sc := broadcastTo S512x2048 u broadcasts_S512x1_S512x2048
/-- One where the score reaches the column's value, else zero. -/
def vsel (b : IVec S512x2048 1) : Sc :=
  select b (broadcast S512x2048 (Scalar.ofBits .f32 0x3F800000#32)) (broadcast S512x2048 (Scalar.ofBits .f32 0x00000000#32))
/-- The row sums. -/
def vsum (e : Sc) : Col :=
  shapeCast S512x1 (multiReduction .add [1] S512 e 0x00000000#32 reduces_S512x2048_S512 (.inl rfl) rfl) shapeCasts_S512_S512x1
/-- Whether at least 512 scores were counted. -/
def vok (n : Col) : IVec S512x1 1 := cmpf .oge n (broadcast S512x1 (Scalar.ofBits .f32 0x44000000#32))
/-- The decision of one halving. -/
def vdec (s : Sc) (mid : Col) : IVec S512x1 1 := vok (vsum (vsel (cmpf .oge s (vbc mid))))
/-- One halving's lower ends. -/
def vlo (s : Sc) (lo hi : Col) : Col := select (vdec s (vmid (addf lo hi))) (vmid (addf lo hi)) lo
/-- One halving's upper ends. -/
def vhi (s : Sc) (lo hi : Col) : Col := select (vdec s (vmid (addf lo hi))) hi (vmid (addf lo hi))

/-- The two ends of each row's interval after `k` halvings. -/
def vbis (s : Sc) (lo hi : Col) : ℕ → Col × Col
  | 0 => (lo, hi)
  | k + 1 => (vlo s (vbis s lo hi k).1 (vbis s lo hi k).2, vhi s (vbis s lo hi k).1 (vbis s lo hi k).2)

/-- The decision of one halving at a row. -/
theorem vdec_apply (s : Sc) (mid : Col) (r : Fin 512) :
    vdec s mid (ix2 r 0) = Ideal.cmp .oge (Block.cnt (fun m => s (ix2 r m)) (mid (ix2 r 0))) Block.cK := by
  unfold Block.cnt
  pointwise [vdec, vok, vsum, vsel, vbc]

/-- The two ends of a row's interval are the row's interval of the specification. -/
theorem vbis_apply (s : Sc) (lo hi : Col) (r : Fin 512) (hlo : lo (ix2 r 0) = Block.mn fun m => s (ix2 r m))
    (hhi : hi (ix2 r 0) = Block.mx fun m => s (ix2 r m)) (k : ℕ) :
    ((vbis s lo hi k).1 (ix2 r 0), (vbis s lo hi k).2 (ix2 r 0)) = Block.bis (fun m => s (ix2 r m)) k := by
  induction k with
  | zero => exact Prod.ext hlo hhi
  | succ k ih =>
    rw [Block.bis, ← ih, vbis]
    generalize (vbis s lo hi k).1 = a
    generalize (vbis s lo hi k).2 = b
    have hm : vmid (addf a b) (ix2 r 0) = Block.cHalf * (a (ix2 r 0) + b (ix2 r 0)) := rfl
    have hd := vdec_apply s (vmid (addf a b)) r
    rw [hm] at hd
    show (vlo s a b (ix2 r 0), vhi s a b (ix2 r 0)) = _
    unfold vlo vhi Block.step
    show ((if vdec s (vmid (addf a b)) (ix2 r 0) = 1 then _ else _), (if vdec s (vmid (addf a b)) (ix2 r 0) = 1 then _ else _)) = _
    rw [hd, hm]
    unfold Ideal.cmp
    by_cases h : Block.cK ≤ Block.cnt (fun m => s (ix2 r m)) (Block.cHalf * (a (ix2 r 0) + b (ix2 r 0)))
    · simp [h]
    · simp [h]

/-- Before any halving the lower ends are the first ones. -/
theorem vbis_lo0 (s : Sc) (a b : Col) : a = (vbis s a b 0).1 := rfl
/-- Before any halving the upper ends are the first ones. -/
theorem vbis_hi0 (s : Sc) (a b : Col) : b = (vbis s a b 0).2 := rfl
/-- One more halving's lower ends. -/
theorem vbis_lo (s : Sc) (a b : Col) (k : ℕ) :
    (vbis s a b (k + 1)).1 = vlo s (vbis s a b k).1 (vbis s a b k).2 := rfl
/-- One more halving's upper ends. -/
theorem vbis_hi (s : Sc) (a b : Col) (k : ℕ) :
    (vbis s a b (k + 1)).2 = vhi s (vbis s a b k).1 (vbis s a b k).2 := rfl

/-- A select of the lower ends by the decisions of halving `k` is the lower ends after it. -/
theorem step_lo (s : Sc) (a b : Col) (k : ℕ) (lo hi mid : Col) (dec : IVec S512x1 1) (hl : lo = (vbis s a b k).1)
    (hh : hi = (vbis s a b k).2) (hm : mid = vmid (addf lo hi)) (hd : dec = vdec s mid) :
    select dec mid lo = (vbis s a b (k + 1)).1 := by
  rw [vbis_lo, hd, hm, hl, hh, vlo]
/-- A select of the upper ends by the decisions of halving `k` is the upper ends after it. -/
theorem step_hi (s : Sc) (a b : Col) (k : ℕ) (lo hi mid : Col) (dec : IVec S512x1 1) (hl : lo = (vbis s a b k).1)
    (hh : hi = (vbis s a b k).2) (hm : mid = vmid (addf lo hi)) (hd : dec = vdec s mid) :
    select dec hi mid = (vbis s a b (k + 1)).2 := by
  rw [vbis_hi, hd, hm, hl, hh, vhi]

/-- The body's first part: from the scores and their least and greatest, two halvings. -/
theorem part1_eq (v0 : Vec Ideal S1x16x512 .f32) (v2 : Vec Ideal S1x16x2048 .f32) :
    (k3_pay11 v0 v2) = (vbis (k3_pay2 v0 v2) (k3_pay4 v0 v2) (k3_pay3 v0 v2) 2).1
    ∧ (k3_pay12 v0 v2) = (vbis (k3_pay2 v0 v2) (k3_pay4 v0 v2) (k3_pay3 v0 v2) 2).2
    ∧ (k3_pay13 v0 v2) = addf (vbis (k3_pay2 v0 v2) (k3_pay4 v0 v2) (k3_pay3 v0 v2) 2).1 (vbis (k3_pay2 v0 v2) (k3_pay4 v0 v2) (k3_pay3 v0 v2) 2).2 := by
  have m0 : (k3_pay5 v0 v2) = vmid (addf (k3_pay4 v0 v2) (k3_pay3 v0 v2)) := rfl
  have d0 : (k3_pay6 v0 v2) = vdec (k3_pay2 v0 v2) (k3_pay5 v0 v2) := rfl
  have l0 : (k3_pay7 v0 v2) = (vbis (k3_pay2 v0 v2) (k3_pay4 v0 v2) (k3_pay3 v0 v2) 1).1 := step_lo (k3_pay2 v0 v2) (k3_pay4 v0 v2) (k3_pay3 v0 v2) 0 (k3_pay4 v0 v2) (k3_pay3 v0 v2) (k3_pay5 v0 v2) (k3_pay6 v0 v2) (vbis_lo0 (k3_pay2 v0 v2) (k3_pay4 v0 v2) (k3_pay3 v0 v2)) (vbis_hi0 (k3_pay2 v0 v2) (k3_pay4 v0 v2) (k3_pay3 v0 v2)) m0 d0
  have h0 : (k3_pay8 v0 v2) = (vbis (k3_pay2 v0 v2) (k3_pay4 v0 v2) (k3_pay3 v0 v2) 1).2 := step_hi (k3_pay2 v0 v2) (k3_pay4 v0 v2) (k3_pay3 v0 v2) 0 (k3_pay4 v0 v2) (k3_pay3 v0 v2) (k3_pay5 v0 v2) (k3_pay6 v0 v2) (vbis_lo0 (k3_pay2 v0 v2) (k3_pay4 v0 v2) (k3_pay3 v0 v2)) (vbis_hi0 (k3_pay2 v0 v2) (k3_pay4 v0 v2) (k3_pay3 v0 v2)) m0 d0
  have m1 : (k3_pay9 v0 v2) = vmid (addf (k3_pay7 v0 v2) (k3_pay8 v0 v2)) := rfl
  have d1 : (k3_pay10 v0 v2) = vdec (k3_pay2 v0 v2) (k3_pay9 v0 v2) := rfl
  have l1 : (k3_pay11 v0 v2) = (vbis (k3_pay2 v0 v2) (k3_pay4 v0 v2) (k3_pay3 v0 v2) 2).1 := step_lo (k3_pay2 v0 v2) (k3_pay4 v0 v2) (k3_pay3 v0 v2) 1 (k3_pay7 v0 v2) (k3_pay8 v0 v2) (k3_pay9 v0 v2) (k3_pay10 v0 v2) l0 h0 m1 d1
  have h1 : (k3_pay12 v0 v2) = (vbis (k3_pay2 v0 v2) (k3_pay4 v0 v2) (k3_pay3 v0 v2) 2).2 := step_hi (k3_pay2 v0 v2) (k3_pay4 v0 v2) (k3_pay3 v0 v2) 1 (k3_pay7 v0 v2) (k3_pay8 v0 v2) (k3_pay9 v0 v2) (k3_pay10 v0 v2) l0 h0 m1 d1
  have o0 : (k3_pay13 v0 v2) = addf (k3_pay11 v0 v2) (k3_pay12 v0 v2) := rfl
  rw [l1, h1] at o0
  exact ⟨l1, h1, o0⟩

/-- The body's part 2: its values are those of further halvings. -/
theorem part2_eq (s : Sc) (a b : Col) :
    (k3_pay24 s a b (addf a b) (Scalar.ofBits .f32 0x3F000000#32)) = (vbis s a b 3).1
    ∧ (k3_pay25 s a b (addf a b) (Scalar.ofBits .f32 0x3F000000#32)) = (vbis s a b 3).2
    ∧ (k3_pay26 s a b (addf a b) (Scalar.ofBits .f32 0x3F000000#32)) = vmid (addf (vbis s a b 3).1 (vbis s a b 3).2)
    ∧ (k3_pay27 s a b (addf a b) (Scalar.ofBits .f32 0x3F000000#32)) = vbc (vmid (addf (vbis s a b 3).1 (vbis s a b 3).2)) := by
  have m0 : (k3_pay14 (addf a b) (Scalar.ofBits .f32 0x3F000000#32)) = vmid (addf a b) := rfl
  have d0 : (k3_pay15 s (addf a b) (Scalar.ofBits .f32 0x3F000000#32)) = vdec s (k3_pay14 (addf a b) (Scalar.ofBits .f32 0x3F000000#32)) := rfl
  have l0 : (k3_pay16 s a (addf a b) (Scalar.ofBits .f32 0x3F000000#32)) = (vbis s a b 1).1 := step_lo s a b 0 a b (k3_pay14 (addf a b) (Scalar.ofBits .f32 0x3F000000#32)) (k3_pay15 s (addf a b) (Scalar.ofBits .f32 0x3F000000#32)) (vbis_lo0 s a b) (vbis_hi0 s a b) m0 d0
  have h0 : (k3_pay17 s b (addf a b) (Scalar.ofBits .f32 0x3F000000#32)) = (vbis s a b 1).2 := step_hi s a b 0 a b (k3_pay14 (addf a b) (Scalar.ofBits .f32 0x3F000000#32)) (k3_pay15 s (addf a b) (Scalar.ofBits .f32 0x3F000000#32)) (vbis_lo0 s a b) (vbis_hi0 s a b) m0 d0
  have m1 : (k3_pay18 s a b (addf a b) (Scalar.ofBits .f32 0x3F000000#32)) = vmid (addf (k3_pay16 s a (addf a b) (Scalar.ofBits .f32 0x3F000000#32)) (k3_pay17 s b (addf a b) (Scalar.ofBits .f32 0x3F000000#32))) := rfl
  have d1 : (k3_pay19 s a b (addf a b) (Scalar.ofBits .f32 0x3F000000#32)) = vdec s (k3_pay18 s a b (addf a b) (Scalar.ofBits .f32 0x3F000000#32)) := rfl
  have l1 : (k3_pay20 s a b (addf a b) (Scalar.ofBits .f32 0x3F000000#32)) = (vbis s a b 2).1 := step_lo s a b 1 (k3_pay16 s a (addf a b) (Scalar.ofBits .f32 0x3F000000#32)) (k3_pay17 s b (addf a b) (Scalar.ofBits .f32 0x3F000000#32)) (k3_pay18 s a b (addf a b) (Scalar.ofBits .f32 0x3F000000#32)) (k3_pay19 s a b (addf a b) (Scalar.ofBits .f32 0x3F000000#32)) l0 h0 m1 d1
  have h1 : (k3_pay21 s a b (addf a b) (Scalar.ofBits .f32 0x3F000000#32)) = (vbis s a b 2).2 := step_hi s a b 1 (k3_pay16 s a (addf a b) (Scalar.ofBits .f32 0x3F000000#32)) (k3_pay17 s b (addf a b) (Scalar.ofBits .f32 0x3F000000#32)) (k3_pay18 s a b (addf a b) (Scalar.ofBits .f32 0x3F000000#32)) (k3_pay19 s a b (addf a b) (Scalar.ofBits .f32 0x3F000000#32)) l0 h0 m1 d1
  have m2 : (k3_pay22 s a b (addf a b) (Scalar.ofBits .f32 0x3F000000#32)) = vmid (addf (k3_pay20 s a b (addf a b) (Scalar.ofBits .f32 0x3F000000#32)) (k3_pay21 s a b (addf a b) (Scalar.ofBits .f32 0x3F000000#32))) := rfl
  have d2 : (k3_pay23 s a b (addf a b) (Scalar.ofBits .f32 0x3F000000#32)) = vdec s (k3_pay22 s a b (addf a b) (Scalar.ofBits .f32 0x3F000000#32)) := rfl
  have l2 : (k3_pay24 s a b (addf a b) (Scalar.ofBits .f32 0x3F000000#32)) = (vbis s a b 3).1 := step_lo s a b 2 (k3_pay20 s a b (addf a b) (Scalar.ofBits .f32 0x3F000000#32)) (k3_pay21 s a b (addf a b) (Scalar.ofBits .f32 0x3F000000#32)) (k3_pay22 s a b (addf a b) (Scalar.ofBits .f32 0x3F000000#32)) (k3_pay23 s a b (addf a b) (Scalar.ofBits .f32 0x3F000000#32)) l1 h1 m2 d2
  have h2 : (k3_pay25 s a b (addf a b) (Scalar.ofBits .f32 0x3F000000#32)) = (vbis s a b 3).2 := step_hi s a b 2 (k3_pay20 s a b (addf a b) (Scalar.ofBits .f32 0x3F000000#32)) (k3_pay21 s a b (addf a b) (Scalar.ofBits .f32 0x3F000000#32)) (k3_pay22 s a b (addf a b) (Scalar.ofBits .f32 0x3F000000#32)) (k3_pay23 s a b (addf a b) (Scalar.ofBits .f32 0x3F000000#32)) l1 h1 m2 d2
  have o0 : (k3_pay26 s a b (addf a b) (Scalar.ofBits .f32 0x3F000000#32)) = vmid (addf (k3_pay24 s a b (addf a b) (Scalar.ofBits .f32 0x3F000000#32)) (k3_pay25 s a b (addf a b) (Scalar.ofBits .f32 0x3F000000#32))) := rfl
  rw [l2, h2] at o0
  have o1 : (k3_pay27 s a b (addf a b) (Scalar.ofBits .f32 0x3F000000#32)) = vbc (vmid (addf (k3_pay24 s a b (addf a b) (Scalar.ofBits .f32 0x3F000000#32)) (k3_pay25 s a b (addf a b) (Scalar.ofBits .f32 0x3F000000#32)))) := rfl
  rw [l2, h2] at o1
  exact ⟨l2, h2, o0, o1⟩

/-- The body's part 3: its values are those of further halvings. -/
theorem part3_eq (s : Sc) (a b : Col) :
    (k3_pay37 s a b (vmid (addf a b)) (vbc (vmid (addf a b)))) = (vbis s a b 3).1
    ∧ (k3_pay38 s a b (vmid (addf a b)) (vbc (vmid (addf a b)))) = (vbis s a b 3).2
    ∧ (k3_pay39 s a b (vmid (addf a b)) (vbc (vmid (addf a b)))) = vmid (addf (vbis s a b 3).1 (vbis s a b 3).2)
    ∧ (k3_pay40 s a b (vmid (addf a b)) (vbc (vmid (addf a b)))) = cmpf .oge s (vbc (vmid (addf (vbis s a b 3).1 (vbis s a b 3).2))) := by
  have m0 : (vmid (addf a b)) = vmid (addf a b) := rfl
  have d0 : (k3_pay28 s (vbc (vmid (addf a b)))) = vdec s (vmid (addf a b)) := rfl
  have l0 : (k3_pay29 s a (vmid (addf a b)) (vbc (vmid (addf a b)))) = (vbis s a b 1).1 := step_lo s a b 0 a b (vmid (addf a b)) (k3_pay28 s (vbc (vmid (addf a b)))) (vbis_lo0 s a b) (vbis_hi0 s a b) m0 d0
  have h0 : (k3_pay30 s b (vmid (addf a b)) (vbc (vmid (addf a b)))) = (vbis s a b 1).2 := step_hi s a b 0 a b (vmid (addf a b)) (k3_pay28 s (vbc (vmid (addf a b)))) (vbis_lo0 s a b) (vbis_hi0 s a b) m0 d0
  have m1 : (k3_pay31 s a b (vmid (addf a b)) (vbc (vmid (addf a b)))) = vmid (addf (k3_pay29 s a (vmid (addf a b)) (vbc (vmid (addf a b)))) (k3_pay30 s b (vmid (addf a b)) (vbc (vmid (addf a b))))) := rfl
  have d1 : (k3_pay32 s a b (vmid (addf a b)) (vbc (vmid (addf a b)))) = vdec s (k3_pay31 s a b (vmid (addf a b)) (vbc (vmid (addf a b)))) := rfl
  have l1 : (k3_pay33 s a b (vmid (addf a b)) (vbc (vmid (addf a b)))) = (vbis s a b 2).1 := step_lo s a b 1 (k3_pay29 s a (vmid (addf a b)) (vbc (vmid (addf a b)))) (k3_pay30 s b (vmid (addf a b)) (vbc (vmid (addf a b)))) (k3_pay31 s a b (vmid (addf a b)) (vbc (vmid (addf a b)))) (k3_pay32 s a b (vmid (addf a b)) (vbc (vmid (addf a b)))) l0 h0 m1 d1
  have h1 : (k3_pay34 s a b (vmid (addf a b)) (vbc (vmid (addf a b)))) = (vbis s a b 2).2 := step_hi s a b 1 (k3_pay29 s a (vmid (addf a b)) (vbc (vmid (addf a b)))) (k3_pay30 s b (vmid (addf a b)) (vbc (vmid (addf a b)))) (k3_pay31 s a b (vmid (addf a b)) (vbc (vmid (addf a b)))) (k3_pay32 s a b (vmid (addf a b)) (vbc (vmid (addf a b)))) l0 h0 m1 d1
  have m2 : (k3_pay35 s a b (vmid (addf a b)) (vbc (vmid (addf a b)))) = vmid (addf (k3_pay33 s a b (vmid (addf a b)) (vbc (vmid (addf a b)))) (k3_pay34 s a b (vmid (addf a b)) (vbc (vmid (addf a b))))) := rfl
  have d2 : (k3_pay36 s a b (vmid (addf a b)) (vbc (vmid (addf a b)))) = vdec s (k3_pay35 s a b (vmid (addf a b)) (vbc (vmid (addf a b)))) := rfl
  have l2 : (k3_pay37 s a b (vmid (addf a b)) (vbc (vmid (addf a b)))) = (vbis s a b 3).1 := step_lo s a b 2 (k3_pay33 s a b (vmid (addf a b)) (vbc (vmid (addf a b)))) (k3_pay34 s a b (vmid (addf a b)) (vbc (vmid (addf a b)))) (k3_pay35 s a b (vmid (addf a b)) (vbc (vmid (addf a b)))) (k3_pay36 s a b (vmid (addf a b)) (vbc (vmid (addf a b)))) l1 h1 m2 d2
  have h2 : (k3_pay38 s a b (vmid (addf a b)) (vbc (vmid (addf a b)))) = (vbis s a b 3).2 := step_hi s a b 2 (k3_pay33 s a b (vmid (addf a b)) (vbc (vmid (addf a b)))) (k3_pay34 s a b (vmid (addf a b)) (vbc (vmid (addf a b)))) (k3_pay35 s a b (vmid (addf a b)) (vbc (vmid (addf a b)))) (k3_pay36 s a b (vmid (addf a b)) (vbc (vmid (addf a b)))) l1 h1 m2 d2
  have o0 : (k3_pay39 s a b (vmid (addf a b)) (vbc (vmid (addf a b)))) = vmid (addf (k3_pay37 s a b (vmid (addf a b)) (vbc (vmid (addf a b)))) (k3_pay38 s a b (vmid (addf a b)) (vbc (vmid (addf a b))))) := rfl
  rw [l2, h2] at o0
  have o1 : (k3_pay40 s a b (vmid (addf a b)) (vbc (vmid (addf a b)))) = cmpf .oge s (vbc (vmid (addf (k3_pay37 s a b (vmid (addf a b)) (vbc (vmid (addf a b)))) (k3_pay38 s a b (vmid (addf a b)) (vbc (vmid (addf a b))))))) := rfl
  rw [l2, h2] at o1
  exact ⟨l2, h2, o0, o1⟩

/-- The body's part 4: its values are those of further halvings. -/
theorem part4_eq (s : Sc) (a b : Col) :
    (k3_pay50 s a b (vmid (addf a b)) (cmpf .oge s (vbc (vmid (addf a b)))) (Scalar.ofBits .f32 0x3F800000#32) (Scalar.ofBits .f32 0x00000000#32)) = (vbis s a b 3).1
    ∧ (k3_pay51 s a b (vmid (addf a b)) (cmpf .oge s (vbc (vmid (addf a b)))) (Scalar.ofBits .f32 0x3F800000#32) (Scalar.ofBits .f32 0x00000000#32)) = (vbis s a b 3).2
    ∧ (k3_pay52 s a b (vmid (addf a b)) (cmpf .oge s (vbc (vmid (addf a b)))) (Scalar.ofBits .f32 0x3F800000#32) (Scalar.ofBits .f32 0x00000000#32)) = vmid (addf (vbis s a b 3).1 (vbis s a b 3).2)
    ∧ (k3_pay53 s a b (vmid (addf a b)) (cmpf .oge s (vbc (vmid (addf a b)))) (Scalar.ofBits .f32 0x3F800000#32) (Scalar.ofBits .f32 0x00000000#32)) = vsel (cmpf .oge s (vbc (vmid (addf (vbis s a b 3).1 (vbis s a b 3).2)))) := by
  have m0 : (vmid (addf a b)) = vmid (addf a b) := rfl
  have d0 : (k3_pay41 (cmpf .oge s (vbc (vmid (addf a b)))) (Scalar.ofBits .f32 0x3F800000#32) (Scalar.ofBits .f32 0x00000000#32)) = vdec s (vmid (addf a b)) := rfl
  have l0 : (k3_pay42 a (vmid (addf a b)) (cmpf .oge s (vbc (vmid (addf a b)))) (Scalar.ofBits .f32 0x3F800000#32) (Scalar.ofBits .f32 0x00000000#32)) = (vbis s a b 1).1 := step_lo s a b 0 a b (vmid (addf a b)) (k3_pay41 (cmpf .oge s (vbc (vmid (addf a b)))) (Scalar.ofBits .f32 0x3F800000#32) (Scalar.ofBits .f32 0x00000000#32)) (vbis_lo0 s a b) (vbis_hi0 s a b) m0 d0
  have h0 : (k3_pay43 b (vmid (addf a b)) (cmpf .oge s (vbc (vmid (addf a b)))) (Scalar.ofBits .f32 0x3F800000#32) (Scalar.ofBits .f32 0x00000000#32)) = (vbis s a b 1).2 := step_hi s a b 0 a b (vmid (addf a b)) (k3_pay41 (cmpf .oge s (vbc (vmid (addf a b)))) (Scalar.ofBits .f32 0x3F800000#32) (Scalar.ofBits .f32 0x00000000#32)) (vbis_lo0 s a b) (vbis_hi0 s a b) m0 d0
  have m1 : (k3_pay44 a b (vmid (addf a b)) (cmpf .oge s (vbc (vmid (addf a b)))) (Scalar.ofBits .f32 0x3F800000#32) (Scalar.ofBits .f32 0x00000000#32)) = vmid (addf (k3_pay42 a (vmid (addf a b)) (cmpf .oge s (vbc (vmid (addf a b)))) (Scalar.ofBits .f32 0x3F800000#32) (Scalar.ofBits .f32 0x00000000#32)) (k3_pay43 b (vmid (addf a b)) (cmpf .oge s (vbc (vmid (addf a b)))) (Scalar.ofBits .f32 0x3F800000#32) (Scalar.ofBits .f32 0x00000000#32))) := rfl
  have d1 : (k3_pay45 s a b (vmid (addf a b)) (cmpf .oge s (vbc (vmid (addf a b)))) (Scalar.ofBits .f32 0x3F800000#32) (Scalar.ofBits .f32 0x00000000#32)) = vdec s (k3_pay44 a b (vmid (addf a b)) (cmpf .oge s (vbc (vmid (addf a b)))) (Scalar.ofBits .f32 0x3F800000#32) (Scalar.ofBits .f32 0x00000000#32)) := rfl
  have l1 : (k3_pay46 s a b (vmid (addf a b)) (cmpf .oge s (vbc (vmid (addf a b)))) (Scalar.ofBits .f32 0x3F800000#32) (Scalar.ofBits .f32 0x00000000#32)) = (vbis s a b 2).1 := step_lo s a b 1 (k3_pay42 a (vmid (addf a b)) (cmpf .oge s (vbc (vmid (addf a b)))) (Scalar.ofBits .f32 0x3F800000#32) (Scalar.ofBits .f32 0x00000000#32)) (k3_pay43 b (vmid (addf a b)) (cmpf .oge s (vbc (vmid (addf a b)))) (Scalar.ofBits .f32 0x3F800000#32) (Scalar.ofBits .f32 0x00000000#32)) (k3_pay44 a b (vmid (addf a b)) (cmpf .oge s (vbc (vmid (addf a b)))) (Scalar.ofBits .f32 0x3F800000#32) (Scalar.ofBits .f32 0x00000000#32)) (k3_pay45 s a b (vmid (addf a b)) (cmpf .oge s (vbc (vmid (addf a b)))) (Scalar.ofBits .f32 0x3F800000#32) (Scalar.ofBits .f32 0x00000000#32)) l0 h0 m1 d1
  have h1 : (k3_pay47 s a b (vmid (addf a b)) (cmpf .oge s (vbc (vmid (addf a b)))) (Scalar.ofBits .f32 0x3F800000#32) (Scalar.ofBits .f32 0x00000000#32)) = (vbis s a b 2).2 := step_hi s a b 1 (k3_pay42 a (vmid (addf a b)) (cmpf .oge s (vbc (vmid (addf a b)))) (Scalar.ofBits .f32 0x3F800000#32) (Scalar.ofBits .f32 0x00000000#32)) (k3_pay43 b (vmid (addf a b)) (cmpf .oge s (vbc (vmid (addf a b)))) (Scalar.ofBits .f32 0x3F800000#32) (Scalar.ofBits .f32 0x00000000#32)) (k3_pay44 a b (vmid (addf a b)) (cmpf .oge s (vbc (vmid (addf a b)))) (Scalar.ofBits .f32 0x3F800000#32) (Scalar.ofBits .f32 0x00000000#32)) (k3_pay45 s a b (vmid (addf a b)) (cmpf .oge s (vbc (vmid (addf a b)))) (Scalar.ofBits .f32 0x3F800000#32) (Scalar.ofBits .f32 0x00000000#32)) l0 h0 m1 d1
  have m2 : (k3_pay48 s a b (vmid (addf a b)) (cmpf .oge s (vbc (vmid (addf a b)))) (Scalar.ofBits .f32 0x3F800000#32) (Scalar.ofBits .f32 0x00000000#32)) = vmid (addf (k3_pay46 s a b (vmid (addf a b)) (cmpf .oge s (vbc (vmid (addf a b)))) (Scalar.ofBits .f32 0x3F800000#32) (Scalar.ofBits .f32 0x00000000#32)) (k3_pay47 s a b (vmid (addf a b)) (cmpf .oge s (vbc (vmid (addf a b)))) (Scalar.ofBits .f32 0x3F800000#32) (Scalar.ofBits .f32 0x00000000#32))) := rfl
  have d2 : (k3_pay49 s a b (vmid (addf a b)) (cmpf .oge s (vbc (vmid (addf a b)))) (Scalar.ofBits .f32 0x3F800000#32) (Scalar.ofBits .f32 0x00000000#32)) = vdec s (k3_pay48 s a b (vmid (addf a b)) (cmpf .oge s (vbc (vmid (addf a b)))) (Scalar.ofBits .f32 0x3F800000#32) (Scalar.ofBits .f32 0x00000000#32)) := rfl
  have l2 : (k3_pay50 s a b (vmid (addf a b)) (cmpf .oge s (vbc (vmid (addf a b)))) (Scalar.ofBits .f32 0x3F800000#32) (Scalar.ofBits .f32 0x00000000#32)) = (vbis s a b 3).1 := step_lo s a b 2 (k3_pay46 s a b (vmid (addf a b)) (cmpf .oge s (vbc (vmid (addf a b)))) (Scalar.ofBits .f32 0x3F800000#32) (Scalar.ofBits .f32 0x00000000#32)) (k3_pay47 s a b (vmid (addf a b)) (cmpf .oge s (vbc (vmid (addf a b)))) (Scalar.ofBits .f32 0x3F800000#32) (Scalar.ofBits .f32 0x00000000#32)) (k3_pay48 s a b (vmid (addf a b)) (cmpf .oge s (vbc (vmid (addf a b)))) (Scalar.ofBits .f32 0x3F800000#32) (Scalar.ofBits .f32 0x00000000#32)) (k3_pay49 s a b (vmid (addf a b)) (cmpf .oge s (vbc (vmid (addf a b)))) (Scalar.ofBits .f32 0x3F800000#32) (Scalar.ofBits .f32 0x00000000#32)) l1 h1 m2 d2
  have h2 : (k3_pay51 s a b (vmid (addf a b)) (cmpf .oge s (vbc (vmid (addf a b)))) (Scalar.ofBits .f32 0x3F800000#32) (Scalar.ofBits .f32 0x00000000#32)) = (vbis s a b 3).2 := step_hi s a b 2 (k3_pay46 s a b (vmid (addf a b)) (cmpf .oge s (vbc (vmid (addf a b)))) (Scalar.ofBits .f32 0x3F800000#32) (Scalar.ofBits .f32 0x00000000#32)) (k3_pay47 s a b (vmid (addf a b)) (cmpf .oge s (vbc (vmid (addf a b)))) (Scalar.ofBits .f32 0x3F800000#32) (Scalar.ofBits .f32 0x00000000#32)) (k3_pay48 s a b (vmid (addf a b)) (cmpf .oge s (vbc (vmid (addf a b)))) (Scalar.ofBits .f32 0x3F800000#32) (Scalar.ofBits .f32 0x00000000#32)) (k3_pay49 s a b (vmid (addf a b)) (cmpf .oge s (vbc (vmid (addf a b)))) (Scalar.ofBits .f32 0x3F800000#32) (Scalar.ofBits .f32 0x00000000#32)) l1 h1 m2 d2
  have o0 : (k3_pay52 s a b (vmid (addf a b)) (cmpf .oge s (vbc (vmid (addf a b)))) (Scalar.ofBits .f32 0x3F800000#32) (Scalar.ofBits .f32 0x00000000#32)) = vmid (addf (k3_pay50 s a b (vmid (addf a b)) (cmpf .oge s (vbc (vmid (addf a b)))) (Scalar.ofBits .f32 0x3F800000#32) (Scalar.ofBits .f32 0x00000000#32)) (k3_pay51 s a b (vmid (addf a b)) (cmpf .oge s (vbc (vmid (addf a b)))) (Scalar.ofBits .f32 0x3F800000#32) (Scalar.ofBits .f32 0x00000000#32))) := rfl
  rw [l2, h2] at o0
  have o1 : (k3_pay53 s a b (vmid (addf a b)) (cmpf .oge s (vbc (vmid (addf a b)))) (Scalar.ofBits .f32 0x3F800000#32) (Scalar.ofBits .f32 0x00000000#32)) = vsel (cmpf .oge s (vbc (vmid (addf (k3_pay50 s a b (vmid (addf a b)) (cmpf .oge s (vbc (vmid (addf a b)))) (Scalar.ofBits .f32 0x3F800000#32) (Scalar.ofBits .f32 0x00000000#32)) (k3_pay51 s a b (vmid (addf a b)) (cmpf .oge s (vbc (vmid (addf a b)))) (Scalar.ofBits .f32 0x3F800000#32) (Scalar.ofBits .f32 0x00000000#32)))))) := rfl
  rw [l2, h2] at o1
  exact ⟨l2, h2, o0, o1⟩

/-- The body's part 5: its values are those of further halvings. -/
theorem part5_eq (s : Sc) (a b : Col) :
    (k3_pay63 s a b (vmid (addf a b)) (vsel (cmpf .oge s (vbc (vmid (addf a b)))))) = (vbis s a b 3).1
    ∧ (k3_pay64 s a b (vmid (addf a b)) (vsel (cmpf .oge s (vbc (vmid (addf a b)))))) = (vbis s a b 3).2
    ∧ (k3_pay65 s a b (vmid (addf a b)) (vsel (cmpf .oge s (vbc (vmid (addf a b)))))) = vmid (addf (vbis s a b 3).1 (vbis s a b 3).2)
    ∧ (k3_pay66 s a b (vmid (addf a b)) (vsel (cmpf .oge s (vbc (vmid (addf a b)))))) = vsum (vsel (cmpf .oge s (vbc (vmid (addf (vbis s a b 3).1 (vbis s a b 3).2))))) := by
  have m0 : (vmid (addf a b)) = vmid (addf a b) := rfl
  have d0 : (k3_pay54 (vsel (cmpf .oge s (vbc (vmid (addf a b)))))) = vdec s (vmid (addf a b)) := rfl
  have l0 : (k3_pay55 a (vmid (addf a b)) (vsel (cmpf .oge s (vbc (vmid (addf a b)))))) = (vbis s a b 1).1 := step_lo s a b 0 a b (vmid (addf a b)) (k3_pay54 (vsel (cmpf .oge s (vbc (vmid (addf a b)))))) (vbis_lo0 s a b) (vbis_hi0 s a b) m0 d0
  have h0 : (k3_pay56 b (vmid (addf a b)) (vsel (cmpf .oge s (vbc (vmid (addf a b)))))) = (vbis s a b 1).2 := step_hi s a b 0 a b (vmid (addf a b)) (k3_pay54 (vsel (cmpf .oge s (vbc (vmid (addf a b)))))) (vbis_lo0 s a b) (vbis_hi0 s a b) m0 d0
  have m1 : (k3_pay57 a b (vmid (addf a b)) (vsel (cmpf .oge s (vbc (vmid (addf a b)))))) = vmid (addf (k3_pay55 a (vmid (addf a b)) (vsel (cmpf .oge s (vbc (vmid (addf a b)))))) (k3_pay56 b (vmid (addf a b)) (vsel (cmpf .oge s (vbc (vmid (addf a b))))))) := rfl
  have d1 : (k3_pay58 s a b (vmid (addf a b)) (vsel (cmpf .oge s (vbc (vmid (addf a b)))))) = vdec s (k3_pay57 a b (vmid (addf a b)) (vsel (cmpf .oge s (vbc (vmid (addf a b)))))) := rfl
  have l1 : (k3_pay59 s a b (vmid (addf a b)) (vsel (cmpf .oge s (vbc (vmid (addf a b)))))) = (vbis s a b 2).1 := step_lo s a b 1 (k3_pay55 a (vmid (addf a b)) (vsel (cmpf .oge s (vbc (vmid (addf a b)))))) (k3_pay56 b (vmid (addf a b)) (vsel (cmpf .oge s (vbc (vmid (addf a b)))))) (k3_pay57 a b (vmid (addf a b)) (vsel (cmpf .oge s (vbc (vmid (addf a b)))))) (k3_pay58 s a b (vmid (addf a b)) (vsel (cmpf .oge s (vbc (vmid (addf a b)))))) l0 h0 m1 d1
  have h1 : (k3_pay60 s a b (vmid (addf a b)) (vsel (cmpf .oge s (vbc (vmid (addf a b)))))) = (vbis s a b 2).2 := step_hi s a b 1 (k3_pay55 a (vmid (addf a b)) (vsel (cmpf .oge s (vbc (vmid (addf a b)))))) (k3_pay56 b (vmid (addf a b)) (vsel (cmpf .oge s (vbc (vmid (addf a b)))))) (k3_pay57 a b (vmid (addf a b)) (vsel (cmpf .oge s (vbc (vmid (addf a b)))))) (k3_pay58 s a b (vmid (addf a b)) (vsel (cmpf .oge s (vbc (vmid (addf a b)))))) l0 h0 m1 d1
  have m2 : (k3_pay61 s a b (vmid (addf a b)) (vsel (cmpf .oge s (vbc (vmid (addf a b)))))) = vmid (addf (k3_pay59 s a b (vmid (addf a b)) (vsel (cmpf .oge s (vbc (vmid (addf a b)))))) (k3_pay60 s a b (vmid (addf a b)) (vsel (cmpf .oge s (vbc (vmid (addf a b))))))) := rfl
  have d2 : (k3_pay62 s a b (vmid (addf a b)) (vsel (cmpf .oge s (vbc (vmid (addf a b)))))) = vdec s (k3_pay61 s a b (vmid (addf a b)) (vsel (cmpf .oge s (vbc (vmid (addf a b)))))) := rfl
  have l2 : (k3_pay63 s a b (vmid (addf a b)) (vsel (cmpf .oge s (vbc (vmid (addf a b)))))) = (vbis s a b 3).1 := step_lo s a b 2 (k3_pay59 s a b (vmid (addf a b)) (vsel (cmpf .oge s (vbc (vmid (addf a b)))))) (k3_pay60 s a b (vmid (addf a b)) (vsel (cmpf .oge s (vbc (vmid (addf a b)))))) (k3_pay61 s a b (vmid (addf a b)) (vsel (cmpf .oge s (vbc (vmid (addf a b)))))) (k3_pay62 s a b (vmid (addf a b)) (vsel (cmpf .oge s (vbc (vmid (addf a b)))))) l1 h1 m2 d2
  have h2 : (k3_pay64 s a b (vmid (addf a b)) (vsel (cmpf .oge s (vbc (vmid (addf a b)))))) = (vbis s a b 3).2 := step_hi s a b 2 (k3_pay59 s a b (vmid (addf a b)) (vsel (cmpf .oge s (vbc (vmid (addf a b)))))) (k3_pay60 s a b (vmid (addf a b)) (vsel (cmpf .oge s (vbc (vmid (addf a b)))))) (k3_pay61 s a b (vmid (addf a b)) (vsel (cmpf .oge s (vbc (vmid (addf a b)))))) (k3_pay62 s a b (vmid (addf a b)) (vsel (cmpf .oge s (vbc (vmid (addf a b)))))) l1 h1 m2 d2
  have o0 : (k3_pay65 s a b (vmid (addf a b)) (vsel (cmpf .oge s (vbc (vmid (addf a b)))))) = vmid (addf (k3_pay63 s a b (vmid (addf a b)) (vsel (cmpf .oge s (vbc (vmid (addf a b)))))) (k3_pay64 s a b (vmid (addf a b)) (vsel (cmpf .oge s (vbc (vmid (addf a b))))))) := rfl
  rw [l2, h2] at o0
  have o1 : (k3_pay66 s a b (vmid (addf a b)) (vsel (cmpf .oge s (vbc (vmid (addf a b)))))) = vsum (vsel (cmpf .oge s (vbc (vmid (addf (k3_pay63 s a b (vmid (addf a b)) (vsel (cmpf .oge s (vbc (vmid (addf a b)))))) (k3_pay64 s a b (vmid (addf a b)) (vsel (cmpf .oge s (vbc (vmid (addf a b))))))))))) := rfl
  rw [l2, h2] at o1
  exact ⟨l2, h2, o0, o1⟩

/-- The body's part 6: its values are those of further halvings. -/
theorem part6_eq (s : Sc) (a b : Col) :
    (k3_pay76 s a b (vmid (addf a b)) (vsum (vsel (cmpf .oge s (vbc (vmid (addf a b))))))) = (vbis s a b 3).1
    ∧ (k3_pay77 s a b (vmid (addf a b)) (vsum (vsel (cmpf .oge s (vbc (vmid (addf a b))))))) = (vbis s a b 3).2
    ∧ (k3_pay78 s a b (vmid (addf a b)) (vsum (vsel (cmpf .oge s (vbc (vmid (addf a b))))))) = vmid (addf (vbis s a b 3).1 (vbis s a b 3).2)
    ∧ (k3_pay79 s a b (vmid (addf a b)) (vsum (vsel (cmpf .oge s (vbc (vmid (addf a b))))))) = vdec s (vmid (addf (vbis s a b 3).1 (vbis s a b 3).2)) := by
  have m0 : (vmid (addf a b)) = vmid (addf a b) := rfl
  have d0 : (k3_pay67 (vsum (vsel (cmpf .oge s (vbc (vmid (addf a b))))))) = vdec s (vmid (addf a b)) := rfl
  have l0 : (k3_pay68 a (vmid (addf a b)) (vsum (vsel (cmpf .oge s (vbc (vmid (addf a b))))))) = (vbis s a b 1).1 := step_lo s a b 0 a b (vmid (addf a b)) (k3_pay67 (vsum (vsel (cmpf .oge s (vbc (vmid (addf a b))))))) (vbis_lo0 s a b) (vbis_hi0 s a b) m0 d0
  have h0 : (k3_pay69 b (vmid (addf a b)) (vsum (vsel (cmpf .oge s (vbc (vmid (addf a b))))))) = (vbis s a b 1).2 := step_hi s a b 0 a b (vmid (addf a b)) (k3_pay67 (vsum (vsel (cmpf .oge s (vbc (vmid (addf a b))))))) (vbis_lo0 s a b) (vbis_hi0 s a b) m0 d0
  have m1 : (k3_pay70 a b (vmid (addf a b)) (vsum (vsel (cmpf .oge s (vbc (vmid (addf a b))))))) = vmid (addf (k3_pay68 a (vmid (addf a b)) (vsum (vsel (cmpf .oge s (vbc (vmid (addf a b))))))) (k3_pay69 b (vmid (addf a b)) (vsum (vsel (cmpf .oge s (vbc (vmid (addf a b)))))))) := rfl
  have d1 : (k3_pay71 s a b (vmid (addf a b)) (vsum (vsel (cmpf .oge s (vbc (vmid (addf a b))))))) = vdec s (k3_pay70 a b (vmid (addf a b)) (vsum (vsel (cmpf .oge s (vbc (vmid (addf a b))))))) := rfl
  have l1 : (k3_pay72 s a b (vmid (addf a b)) (vsum (vsel (cmpf .oge s (vbc (vmid (addf a b))))))) = (vbis s a b 2).1 := step_lo s a b 1 (k3_pay68 a (vmid (addf a b)) (vsum (vsel (cmpf .oge s (vbc (vmid (addf a b))))))) (k3_pay69 b (vmid (addf a b)) (vsum (vsel (cmpf .oge s (vbc (vmid (addf a b))))))) (k3_pay70 a b (vmid (addf a b)) (vsum (vsel (cmpf .oge s (vbc (vmid (addf a b))))))) (k3_pay71 s a b (vmid (addf a b)) (vsum (vsel (cmpf .oge s (vbc (vmid (addf a b))))))) l0 h0 m1 d1
  have h1 : (k3_pay73 s a b (vmid (addf a b)) (vsum (vsel (cmpf .oge s (vbc (vmid (addf a b))))))) = (vbis s a b 2).2 := step_hi s a b 1 (k3_pay68 a (vmid (addf a b)) (vsum (vsel (cmpf .oge s (vbc (vmid (addf a b))))))) (k3_pay69 b (vmid (addf a b)) (vsum (vsel (cmpf .oge s (vbc (vmid (addf a b))))))) (k3_pay70 a b (vmid (addf a b)) (vsum (vsel (cmpf .oge s (vbc (vmid (addf a b))))))) (k3_pay71 s a b (vmid (addf a b)) (vsum (vsel (cmpf .oge s (vbc (vmid (addf a b))))))) l0 h0 m1 d1
  have m2 : (k3_pay74 s a b (vmid (addf a b)) (vsum (vsel (cmpf .oge s (vbc (vmid (addf a b))))))) = vmid (addf (k3_pay72 s a b (vmid (addf a b)) (vsum (vsel (cmpf .oge s (vbc (vmid (addf a b))))))) (k3_pay73 s a b (vmid (addf a b)) (vsum (vsel (cmpf .oge s (vbc (vmid (addf a b)))))))) := rfl
  have d2 : (k3_pay75 s a b (vmid (addf a b)) (vsum (vsel (cmpf .oge s (vbc (vmid (addf a b))))))) = vdec s (k3_pay74 s a b (vmid (addf a b)) (vsum (vsel (cmpf .oge s (vbc (vmid (addf a b))))))) := rfl
  have l2 : (k3_pay76 s a b (vmid (addf a b)) (vsum (vsel (cmpf .oge s (vbc (vmid (addf a b))))))) = (vbis s a b 3).1 := step_lo s a b 2 (k3_pay72 s a b (vmid (addf a b)) (vsum (vsel (cmpf .oge s (vbc (vmid (addf a b))))))) (k3_pay73 s a b (vmid (addf a b)) (vsum (vsel (cmpf .oge s (vbc (vmid (addf a b))))))) (k3_pay74 s a b (vmid (addf a b)) (vsum (vsel (cmpf .oge s (vbc (vmid (addf a b))))))) (k3_pay75 s a b (vmid (addf a b)) (vsum (vsel (cmpf .oge s (vbc (vmid (addf a b))))))) l1 h1 m2 d2
  have h2 : (k3_pay77 s a b (vmid (addf a b)) (vsum (vsel (cmpf .oge s (vbc (vmid (addf a b))))))) = (vbis s a b 3).2 := step_hi s a b 2 (k3_pay72 s a b (vmid (addf a b)) (vsum (vsel (cmpf .oge s (vbc (vmid (addf a b))))))) (k3_pay73 s a b (vmid (addf a b)) (vsum (vsel (cmpf .oge s (vbc (vmid (addf a b))))))) (k3_pay74 s a b (vmid (addf a b)) (vsum (vsel (cmpf .oge s (vbc (vmid (addf a b))))))) (k3_pay75 s a b (vmid (addf a b)) (vsum (vsel (cmpf .oge s (vbc (vmid (addf a b))))))) l1 h1 m2 d2
  have o0 : (k3_pay78 s a b (vmid (addf a b)) (vsum (vsel (cmpf .oge s (vbc (vmid (addf a b))))))) = vmid (addf (k3_pay76 s a b (vmid (addf a b)) (vsum (vsel (cmpf .oge s (vbc (vmid (addf a b))))))) (k3_pay77 s a b (vmid (addf a b)) (vsum (vsel (cmpf .oge s (vbc (vmid (addf a b)))))))) := rfl
  rw [l2, h2] at o0
  have o1 : (k3_pay79 s a b (vmid (addf a b)) (vsum (vsel (cmpf .oge s (vbc (vmid (addf a b))))))) = vdec s (vmid (addf (k3_pay76 s a b (vmid (addf a b)) (vsum (vsel (cmpf .oge s (vbc (vmid (addf a b))))))) (k3_pay77 s a b (vmid (addf a b)) (vsum (vsel (cmpf .oge s (vbc (vmid (addf a b))))))))) := rfl
  rw [l2, h2] at o1
  exact ⟨l2, h2, o0, o1⟩

/-- The body's part 7: its values are those of further halvings. -/
theorem part7_eq (s : Sc) (a b : Col) :
    (k3_pay92 s a b (vmid (addf a b)) (vdec s (vmid (addf a b)))) = (vbis s a b 4).1
    ∧ (k3_pay93 s a b (vmid (addf a b)) (vdec s (vmid (addf a b)))) = addf (vbis s a b 4).1 (vbis s a b 4).2 := by
  have m0 : (vmid (addf a b)) = vmid (addf a b) := rfl
  have d0 : (vdec s (vmid (addf a b))) = vdec s (vmid (addf a b)) := rfl
  have l0 : (k3_pay80 a (vmid (addf a b)) (vdec s (vmid (addf a b)))) = (vbis s a b 1).1 := step_lo s a b 0 a b (vmid (addf a b)) (vdec s (vmid (addf a b))) (vbis_lo0 s a b) (vbis_hi0 s a b) m0 d0
  have h0 : (k3_pay81 b (vmid (addf a b)) (vdec s (vmid (addf a b)))) = (vbis s a b 1).2 := step_hi s a b 0 a b (vmid (addf a b)) (vdec s (vmid (addf a b))) (vbis_lo0 s a b) (vbis_hi0 s a b) m0 d0
  have m1 : (k3_pay82 a b (vmid (addf a b)) (vdec s (vmid (addf a b)))) = vmid (addf (k3_pay80 a (vmid (addf a b)) (vdec s (vmid (addf a b)))) (k3_pay81 b (vmid (addf a b)) (vdec s (vmid (addf a b))))) := rfl
  have d1 : (k3_pay83 s a b (vmid (addf a b)) (vdec s (vmid (addf a b)))) = vdec s (k3_pay82 a b (vmid (addf a b)) (vdec s (vmid (addf a b)))) := rfl
  have l1 : (k3_pay84 s a b (vmid (addf a b)) (vdec s (vmid (addf a b)))) = (vbis s a b 2).1 := step_lo s a b 1 (k3_pay80 a (vmid (addf a b)) (vdec s (vmid (addf a b)))) (k3_pay81 b (vmid (addf a b)) (vdec s (vmid (addf a b)))) (k3_pay82 a b (vmid (addf a b)) (vdec s (vmid (addf a b)))) (k3_pay83 s a b (vmid (addf a b)) (vdec s (vmid (addf a b)))) l0 h0 m1 d1
  have h1 : (k3_pay85 s a b (vmid (addf a b)) (vdec s (vmid (addf a b)))) = (vbis s a b 2).2 := step_hi s a b 1 (k3_pay80 a (vmid (addf a b)) (vdec s (vmid (addf a b)))) (k3_pay81 b (vmid (addf a b)) (vdec s (vmid (addf a b)))) (k3_pay82 a b (vmid (addf a b)) (vdec s (vmid (addf a b)))) (k3_pay83 s a b (vmid (addf a b)) (vdec s (vmid (addf a b)))) l0 h0 m1 d1
  have m2 : (k3_pay86 s a b (vmid (addf a b)) (vdec s (vmid (addf a b)))) = vmid (addf (k3_pay84 s a b (vmid (addf a b)) (vdec s (vmid (addf a b)))) (k3_pay85 s a b (vmid (addf a b)) (vdec s (vmid (addf a b))))) := rfl
  have d2 : (k3_pay87 s a b (vmid (addf a b)) (vdec s (vmid (addf a b)))) = vdec s (k3_pay86 s a b (vmid (addf a b)) (vdec s (vmid (addf a b)))) := rfl
  have l2 : (k3_pay88 s a b (vmid (addf a b)) (vdec s (vmid (addf a b)))) = (vbis s a b 3).1 := step_lo s a b 2 (k3_pay84 s a b (vmid (addf a b)) (vdec s (vmid (addf a b)))) (k3_pay85 s a b (vmid (addf a b)) (vdec s (vmid (addf a b)))) (k3_pay86 s a b (vmid (addf a b)) (vdec s (vmid (addf a b)))) (k3_pay87 s a b (vmid (addf a b)) (vdec s (vmid (addf a b)))) l1 h1 m2 d2
  have h2 : (k3_pay89 s a b (vmid (addf a b)) (vdec s (vmid (addf a b)))) = (vbis s a b 3).2 := step_hi s a b 2 (k3_pay84 s a b (vmid (addf a b)) (vdec s (vmid (addf a b)))) (k3_pay85 s a b (vmid (addf a b)) (vdec s (vmid (addf a b)))) (k3_pay86 s a b (vmid (addf a b)) (vdec s (vmid (addf a b)))) (k3_pay87 s a b (vmid (addf a b)) (vdec s (vmid (addf a b)))) l1 h1 m2 d2
  have m3 : (k3_pay90 s a b (vmid (addf a b)) (vdec s (vmid (addf a b)))) = vmid (addf (k3_pay88 s a b (vmid (addf a b)) (vdec s (vmid (addf a b)))) (k3_pay89 s a b (vmid (addf a b)) (vdec s (vmid (addf a b))))) := rfl
  have d3 : (k3_pay91 s a b (vmid (addf a b)) (vdec s (vmid (addf a b)))) = vdec s (k3_pay90 s a b (vmid (addf a b)) (vdec s (vmid (addf a b)))) := rfl
  have l3 : (k3_pay92 s a b (vmid (addf a b)) (vdec s (vmid (addf a b)))) = (vbis s a b 4).1 := step_lo s a b 3 (k3_pay88 s a b (vmid (addf a b)) (vdec s (vmid (addf a b)))) (k3_pay89 s a b (vmid (addf a b)) (vdec s (vmid (addf a b)))) (k3_pay90 s a b (vmid (addf a b)) (vdec s (vmid (addf a b)))) (k3_pay91 s a b (vmid (addf a b)) (vdec s (vmid (addf a b)))) l2 h2 m3 d3
  have h3 : (select (k3_pay91 s a b (vmid (addf a b)) (vdec s (vmid (addf a b)))) (k3_pay89 s a b (vmid (addf a b)) (vdec s (vmid (addf a b)))) (k3_pay90 s a b (vmid (addf a b)) (vdec s (vmid (addf a b))))) = (vbis s a b 4).2 := step_hi s a b 3 (k3_pay88 s a b (vmid (addf a b)) (vdec s (vmid (addf a b)))) (k3_pay89 s a b (vmid (addf a b)) (vdec s (vmid (addf a b)))) (k3_pay90 s a b (vmid (addf a b)) (vdec s (vmid (addf a b)))) (k3_pay91 s a b (vmid (addf a b)) (vdec s (vmid (addf a b)))) l2 h2 m3 d3
  have o0 : (k3_pay93 s a b (vmid (addf a b)) (vdec s (vmid (addf a b)))) = addf (k3_pay92 s a b (vmid (addf a b)) (vdec s (vmid (addf a b)))) (select (k3_pay91 s a b (vmid (addf a b)) (vdec s (vmid (addf a b)))) (k3_pay89 s a b (vmid (addf a b)) (vdec s (vmid (addf a b)))) (k3_pay90 s a b (vmid (addf a b)) (vdec s (vmid (addf a b))))) := rfl
  rw [l3, h3] at o0
  exact ⟨l3, o0⟩

end Cert.KernelIdeal.Val

end

end
-- ==== Proof.K3Out.lean ====
/-
  The attention region's output block at an index.
-/
module

public import proofs.«01_k».proof.Proof.K3
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen

/-- Halving on from where `n` halvings ended. -/
theorem vbis_add (s : Sc) (a b : Col) (n k : ℕ) : vbis s (vbis s a b n).1 (vbis s a b n).2 k = vbis s a b (n + k) := by
  induction k with
  | zero => rfl
  | succ k ih => rw [vbis, ih]; rfl

/-- The exponentials of the scores at or above the lower end. -/
def vexp (s : Sc) (rm lo : Col) : Sc :=
  select (cmpf .oge s (vbc lo)) (exp (subf s (vbc rm))) (broadcast S512x2048 (Scalar.ofBits .f32 0x00000000#32))

/-- The weights times the values. -/
def vout (s : Sc) (rm lo : Col) (v : Vec Ideal S1x2048x16 .f32) : FVec Ideal S1x512x16 .f32 :=
  shapeCast S1x512x16 (matmul dot_S512x2048_S2048x16_S512x16_1_0_0_1_n_n none (divf (vexp s rm lo) (vbc (vsum (vexp s rm lo))))
    (shapeCast S2048x16 v shapeCasts_S1x2048x16_S2048x16 : FVec Ideal S2048x16 .f32) (constant S512x16 .f32 0x00000000#32)) shapeCasts_S512x16_S1x512x16

/-- The last halving and what follows it. -/
theorem pay1_eq (s : Sc) (rm a b : Col) (v : Vec Ideal S1x2048x16 .f32) :
    k3_pay1 s rm a (addf a b) v = vout s rm (vlo s a b) v := rfl

/-- The scores of a block of queries. -/
theorem pay2_apply (x0 : Vec Ideal S1x16x512 .f32) (x1 : Vec Ideal S1x16x2048 .f32) (r : Fin 512) (m : Fin 2048) :
    k3_pay2 x0 x1 (ix2 r m) = ∑ d : Fin 16, x0 (ix3 0 d r) * x1 (ix3 0 d m) := by
  pointwise [k3_pay2]

/-- The greatest score of a row of the block. -/
theorem pay3_apply (x0 : Vec Ideal S1x16x512 .f32) (x1 : Vec Ideal S1x16x2048 .f32) (r : Fin 512) :
    k3_pay3 x0 x1 (ix2 r 0) = Block.mx fun m => k3_pay2 x0 x1 (ix2 r m) := by
  unfold k3_pay3
  generalize k3_pay2 x0 x1 = s
  unfold Block.mx
  pointwise
  rw [Block.negInf_val]

/-- The least score of a row of the block. -/
theorem pay4_apply (x0 : Vec Ideal S1x16x512 .f32) (x1 : Vec Ideal S1x16x2048 .f32) (r : Fin 512) :
    k3_pay4 x0 x1 (ix2 r 0) = Block.mn fun m => k3_pay2 x0 x1 (ix2 r m) := by
  unfold k3_pay4
  generalize k3_pay2 x0 x1 = s
  unfold Block.mn
  pointwise
  rw [Block.posInf_val]

/-- An entry of the attention's block from the lower ends. -/
theorem vout_apply (s : Sc) (rm lo : Col) (v : Vec Ideal S1x2048x16 .f32) (r : Fin 512) (c : Fin 16) :
    vout s rm lo v (ix3 0 r c) = ∑ m : Fin 2048, Ideal.div
      (if lo (ix2 r 0) ≤ s (ix2 r m) then Ideal.exp (s (ix2 r m) - rm (ix2 r 0)) else 0)
      (∑ l : Fin 2048, if lo (ix2 r 0) ≤ s (ix2 r l) then Ideal.exp (s (ix2 r l) - rm (ix2 r 0)) else 0) * v (ix3 0 m c) := by
  pointwise [vout, vexp, vbc, vsum]

/-- The lower ends and the sums of ends after 21 halvings, as the region's payloads chain them. -/
theorem chain_eq (x0 : Vec Ideal S1x16x512 .f32) (x1 : Vec Ideal S1x16x2048 .f32) (s : Sc) (mn' mx' : Col)
    (hs : k3_pay2 x0 x1 = s) (hn : k3_pay4 x0 x1 = mn') (hx : k3_pay3 x0 x1 = mx')
    (p95 p96 p97 p98 p99 p100 : Col) (p101 : Sc) (p102 p103 p104 : Col) (p105 : IVec S512x2048 1) (p106 p107 p108 : Col)
    (p109 : Sc) (p110 p111 p112 p113 p114 p115 p116 : Col) (p117 : IVec S512x1 1)
    (h95 : p95 = k3_pay11 x0 x1) (h96 : p96 = k3_pay12 x0 x1) (h97 : p97 = k3_pay13 x0 x1)
    (h98 : p98 = k3_pay24 s p95 p96 p97 (Scalar.ofBits .f32 0x3F000000#32))
    (h99 : p99 = k3_pay25 s p95 p96 p97 (Scalar.ofBits .f32 0x3F000000#32))
    (h100 : p100 = k3_pay26 s p95 p96 p97 (Scalar.ofBits .f32 0x3F000000#32))
    (h101 : p101 = k3_pay27 s p95 p96 p97 (Scalar.ofBits .f32 0x3F000000#32))
    (h102 : p102 = k3_pay37 s p98 p99 p100 p101) (h103 : p103 = k3_pay38 s p98 p99 p100 p101)
    (h104 : p104 = k3_pay39 s p98 p99 p100 p101) (h105 : p105 = k3_pay40 s p98 p99 p100 p101)
    (h106 : p106 = k3_pay50 s p102 p103 p104 p105 (Scalar.ofBits .f32 0x3F800000#32) (Scalar.ofBits .f32 0x00000000#32))
    (h107 : p107 = k3_pay51 s p102 p103 p104 p105 (Scalar.ofBits .f32 0x3F800000#32) (Scalar.ofBits .f32 0x00000000#32))
    (h108 : p108 = k3_pay52 s p102 p103 p104 p105 (Scalar.ofBits .f32 0x3F800000#32) (Scalar.ofBits .f32 0x00000000#32))
    (h109 : p109 = k3_pay53 s p102 p103 p104 p105 (Scalar.ofBits .f32 0x3F800000#32) (Scalar.ofBits .f32 0x00000000#32))
    (h110 : p110 = k3_pay63 s p106 p107 p108 p109) (h111 : p111 = k3_pay64 s p106 p107 p108 p109)
    (h112 : p112 = k3_pay65 s p106 p107 p108 p109) (h113 : p113 = k3_pay66 s p106 p107 p108 p109)
    (h114 : p114 = k3_pay76 s p110 p111 p112 p113) (h115 : p115 = k3_pay77 s p110 p111 p112 p113)
    (h116 : p116 = k3_pay78 s p110 p111 p112 p113) (h117 : p117 = k3_pay79 s p110 p111 p112 p113) :
    k3_pay92 s p114 p115 p116 p117 = (vbis s mn' mx' 21).1
    ∧ k3_pay93 s p114 p115 p116 p117 = addf (vbis s mn' mx' 21).1 (vbis s mn' mx' 21).2 := by
  obtain ⟨a1, a2, a3⟩ := part1_eq x0 x1
  rw [hs, hn, hx] at a1 a2 a3
  rw [← h95] at a1
  rw [← h96] at a2
  rw [← h97] at a3
  subst a1; subst a2; subst a3
  obtain ⟨b1, b2, b3, b4⟩ := part2_eq s (vbis s mn' mx' 2).1 (vbis s mn' mx' 2).2
  rw [← h98, vbis_add] at b1
  rw [← h99, vbis_add] at b2
  rw [← h100, vbis_add] at b3
  rw [← h101, vbis_add] at b4
  subst b1; subst b2; subst b3; subst b4
  obtain ⟨c1, c2, c3, c4⟩ := part3_eq s (vbis s mn' mx' (2 + 3)).1 (vbis s mn' mx' (2 + 3)).2
  rw [← h102, vbis_add] at c1
  rw [← h103, vbis_add] at c2
  rw [← h104, vbis_add] at c3
  rw [← h105, vbis_add] at c4
  subst c1; subst c2; subst c3; subst c4
  obtain ⟨d1, d2, d3, d4⟩ := part4_eq s (vbis s mn' mx' (2 + 3 + 3)).1 (vbis s mn' mx' (2 + 3 + 3)).2
  rw [← h106, vbis_add] at d1
  rw [← h107, vbis_add] at d2
  rw [← h108, vbis_add] at d3
  rw [← h109, vbis_add] at d4
  subst d1; subst d2; subst d3; subst d4
  obtain ⟨e1, e2, e3, e4⟩ := part5_eq s (vbis s mn' mx' (2 + 3 + 3 + 3)).1 (vbis s mn' mx' (2 + 3 + 3 + 3)).2
  rw [← h110, vbis_add] at e1
  rw [← h111, vbis_add] at e2
  rw [← h112, vbis_add] at e3
  rw [← h113, vbis_add] at e4
  subst e1; subst e2; subst e3; subst e4
  obtain ⟨f1, f2, f3, f4⟩ := part6_eq s (vbis s mn' mx' (2 + 3 + 3 + 3 + 3)).1 (vbis s mn' mx' (2 + 3 + 3 + 3 + 3)).2
  rw [← h114, vbis_add] at f1
  rw [← h115, vbis_add] at f2
  rw [← h116, vbis_add] at f3
  rw [← h117, vbis_add] at f4
  subst f1; subst f2; subst f3; subst f4
  obtain ⟨g1, g2⟩ := part7_eq s (vbis s mn' mx' (2 + 3 + 3 + 3 + 3 + 3)).1 (vbis s mn' mx' (2 + 3 + 3 + 3 + 3 + 3)).2
  rw [vbis_add] at g1 g2
  exact ⟨g1, g2⟩

/-- A row of the output: the softmax mean by halving of the row's scores. -/
theorem vout_bis (x0 : Vec Ideal S1x16x512 .f32) (x1 : Vec Ideal S1x16x2048 .f32) (v : Vec Ideal S1x2048x16 .f32)
    (r : Fin 512) (c : Fin 16) :
    vout (k3_pay2 x0 x1) (k3_pay3 x0 x1) (vbis (k3_pay2 x0 x1) (k3_pay4 x0 x1) (k3_pay3 x0 x1) 22).1 v (ix3 0 r c)
      = Block.attK (fun m => ∑ d : Fin 16, x0 (ix3 0 d r) * x1 (ix3 0 d m)) (fun m => v (ix3 0 m c)) := by
  have e := vbis_apply (k3_pay2 x0 x1) (k3_pay4 x0 x1) (k3_pay3 x0 x1) r (pay4_apply x0 x1 r) (pay3_apply x0 x1 r) 22
  have e1 := congrArg Prod.fst e
  rw [vout_apply, pay3_apply]
  dsimp only at e1
  rw [e1]
  simp only [pay2_apply]
  rfl

/-- The attention region's block. -/
theorem out3_apply (x0 : Vec Ideal S1x16x512 .f32) (x1 : Vec Ideal S1x16x2048 .f32) (x2 : Vec Ideal S1x2048x16 .f32)
    (r : Fin 512) (c : Fin 16) : out3_3 x0 x1 x2 (ix3 0 r c)
      = Block.attK (fun m => ∑ d : Fin 16, x0 (ix3 0 d r) * x1 (ix3 0 d m)) (fun m => x2 (ix3 0 m c)) := by
  refine Eq.trans ?_ (vout_bis x0 x1 x2 r c)
  unfold out3_3
  have hc := chain_eq (View.ld x0 r3_0) (View.ld x1 r3_1) _ _ _ rfl rfl rfl _ _ _ _ _ _ _ _ _ _ _ _ _ _ _ _ _ _ _ _ _ _ _
    (rfl : k3_pay95 x0 x1 x2 = _) (rfl : k3_pay96 x0 x1 x2 = _) (rfl : k3_pay97 x0 x1 x2 = _)
    (rfl : k3_pay98 x0 x1 x2 = _) (rfl : k3_pay99 x0 x1 x2 = _) (rfl : k3_pay100 x0 x1 x2 = _)
    (rfl : k3_pay101 x0 x1 x2 = _) (rfl : k3_pay102 x0 x1 x2 = _) (rfl : k3_pay103 x0 x1 x2 = _)
    (rfl : k3_pay104 x0 x1 x2 = _) (rfl : k3_pay105 x0 x1 x2 = _) (rfl : k3_pay106 x0 x1 x2 = _)
    (rfl : k3_pay107 x0 x1 x2 = _) (rfl : k3_pay108 x0 x1 x2 = _) (rfl : k3_pay109 x0 x1 x2 = _)
    (rfl : k3_pay110 x0 x1 x2 = _) (rfl : k3_pay111 x0 x1 x2 = _) (rfl : k3_pay112 x0 x1 x2 = _)
    (rfl : k3_pay113 x0 x1 x2 = _) (rfl : k3_pay114 x0 x1 x2 = _) (rfl : k3_pay115 x0 x1 x2 = _)
    (rfl : k3_pay116 x0 x1 x2 = _) (rfl : k3_pay117 x0 x1 x2 = _)
  rw [show k3_pay94 x0 x1 x2 = k3_pay2 (View.ld x0 r3_0) (View.ld x1 r3_1) from rfl, hc.1, hc.2, pay1_eq, ← vbis_lo]
  refine (congrFun (View.canon_cons_unit_lit _ _ _ (by decide)) _).trans ?_
  rw [View.ld_unit_lit _ x0 (by decide), View.ld_unit_lit _ x1 (by decide), View.ld_unit_lit _ x2 (by decide)]

end Cert.KernelIdeal.Val

end

end
-- ==== Proof.KArr3.lean ====
/-
  The attention region's output array from its input arrays.
-/
module

public import proofs.«01_k».proof.Proof.K3Out

@[expose] public section

set_option maxRecDepth 16384

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The attention of queries, keys and values by batch and head. -/
def G3 (q k : FVec Ideal S8x16x2048 .f32) (v : FVec Ideal S8x2048x16 .f32) : FVec Ideal S8x2048x16 .f32 := fun i =>
  Block.attK (fun m => ∑ d : Fin 16, q (ix3 (i 0 : Fin 8) d (i 1 : Fin 2048)) * k (ix3 (i 0 : Fin 8) d m))
    (fun m => v (ix3 (i 0 : Fin 8) m (i 2 : Fin 16)))

/-- The blocks of the attention's windows at a grid point. -/
theorem idx3 : ∀ t : Fin cfg3.N, win3_0.index t = ![(grid3.coords t 0).val, 0, (grid3.coords t 1).val]
    ∧ win3_1.index t = ![(grid3.coords t 0).val, 0, 0] ∧ win3_2.index t = ![(grid3.coords t 0).val, 0, 0]
    ∧ win3_3.index t = ![(grid3.coords t 0).val, (grid3.coords t 1).val, 0] :=
  (by decide +kernel : ∀ t : Fin grid3.N, _)

/-- The array that the attention call leaves. -/
theorem arr3 (c : Dev nD) : (dat3 V c).arrAt 3 cfg3.N = G3 (V c main_v39_0) (V c main_v39_1) (V c main_v35) := by
  refine (dat3 V c).arrAt_eq_of_covers 3 _ (by decide +kernel) fun t hf y => ?_
  obtain ⟨e0, e1, e2, e3⟩ := idx3 t
  blk_simp
  rw [after3_3]
  idx_vars y
  obtain rfl : y0 = 0 := Subsingleton.elim _ _
  rw [out3_apply]
  simp only [G3]
  refine congrArg₂ Block.attK (funext fun m => ?_) (funext fun m => ?_)
  · blk_point [iblk3, e0, e1, e2, e3]
  · blk_ext [iblk3, e0, e1, e2, e3]

end Cert.KernelIdeal.Val

end

end
-- ==== Proof.KArr5.lean ====
/-
  The last region's result array.
-/
module

public import proofs.«01_k».proof.Proof.KOut

@[expose] public section

set_option maxRecDepth 16384

noncomputable section

namespace Cert.KernelIdeal.Val

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The region's points are the batch entries. -/
theorem idx5 : ∀ t : Fin cfg5.N, win5_0.index t = ![(grid5.coords t 0).val, 0, 0, 0]
    ∧ win5_1.index t = ![0, 0]
    ∧ win5_2.index t = ![0, 0]
    ∧ win5_3.index t = ![(grid5.coords t 0).val, 0, 0]
    ∧ win5_4.index t = ![(grid5.coords t 0).val, 0, 0] :=
  (by decide +kernel : ∀ t : Fin grid5.N, _)

/-- The block of window 0 of call 5 that a grid point reads, as its array's entries. -/
theorem blk5_0 (c : Dev nD) (t : Fin cfg5.N) (b : Fin 2) (hb : b.val = (grid5.coords t 0).val) :
    iblk5 V c 0 t = fun z => V c main_v48 (ix4 b (z 1 : Fin 34) (z 2 : Fin 34) (z 3 : Fin 64)) := by
  obtain ⟨e0, e1, e2, e3, e4⟩ := idx5 t
  funext z
  idx_vars z
  obtain rfl : z0 = 0 := Subsingleton.elim _ _
  blk_ext [iblk5, e0, hb]

/-- The block of window 1 of call 5 that a grid point reads, as its array's entries. -/
theorem blk5_1 (c : Dev nD) (t : Fin cfg5.N) : iblk5 V c 1 t = V c main_v51 := by
  obtain ⟨e0, e1, e2, e3, e4⟩ := idx5 t
  funext z
  idx_vars z
  blk_ext [iblk5, e1]

/-- The block of window 2 of call 5 that a grid point reads, as its array's entries. -/
theorem blk5_2 (c : Dev nD) (t : Fin cfg5.N) : iblk5 V c 2 t = V c main_arg11 := by
  obtain ⟨e0, e1, e2, e3, e4⟩ := idx5 t
  funext z
  idx_vars z
  blk_ext [iblk5, e2]

/-- The block of window 3 of call 5 that a grid point reads, as its array's entries. -/
theorem blk5_3 (c : Dev nD) (t : Fin cfg5.N) (b : Fin 2) (hb : b.val = (grid5.coords t 0).val) :
    iblk5 V c 3 t = fun z => V c main_v52 (ix3 b (z 1 : Fin 1024) (z 2 : Fin 128)) := by
  obtain ⟨e0, e1, e2, e3, e4⟩ := idx5 t
  funext z
  idx_vars z
  obtain rfl : z0 = 0 := Subsingleton.elim _ _
  blk_ext [iblk5, e3, hb]

/-- Result array 4 of the region, one batch entry at a time. -/
def G5_4 (x0 : FVec Ideal S2x34x34x64 .f32) (x1 : FVec Ideal S9x64 .f32) (x2 : FVec Ideal S128x64 .f32) (x3 : FVec Ideal S2x1024x128 .f32) :
    FVec Ideal S2x1024x128 .f32 := fun i =>
  out5_4 (F := Ideal) (fun y => x0 (ix4 (i 0 : Fin 2) (y 1 : Fin 34) (y 2 : Fin 34) (y 3 : Fin 64))) x1 x2 (fun y => x3 (ix3 (i 0 : Fin 2) (y 1 : Fin 1024) (y 2 : Fin 128)))
    (ix3 0 (i 1 : Fin 1024) (i 2 : Fin 128))

/-- The array that window 4 of call 5 leaves, as the call's formula of its inputs. -/
theorem arr5_4 (c : Dev nD) : (dat5 V c).arrAt 4 cfg5.N = G5_4 (V c main_v48) (V c main_v51) (V c main_arg11) (V c main_v52) := by
  refine (dat5 V c).arrAt_eq_of_covers 4 _ (by decide +kernel) fun t hf y => ?_
  obtain ⟨e0, e1, e2, e3, e4⟩ := idx5 t
  blk_simp
  rw [after5_4]
  idx_vars y
  obtain rfl : y0 = 0 := Subsingleton.elim _ _
  have hb : ((win5_4.blk t).view.emb (ix3 0 y1 y2) 0).val = (grid5.coords t 0).val := by
    blk_simp [e4]
    try simp
  rw [blk5_0 V c t _ hb, blk5_1 V c t, blk5_2 V c t, blk5_3 V c t _ hb]
  refine congrArg (out5_4 _ _ _ _) ?_
  blk_ext [e4]

end Cert.KernelIdeal.Val

end

end
-- ==== Proof.KMid.lean ====
/-
  Each region's result as a part of the block, from arrays that hold the parts before it.
-/
module

public import proofs.«01_k».proof.Proof.KArr0
public import proofs.«01_k».proof.Proof.KArr1
public import proofs.«01_k».proof.Proof.KArr2
public import proofs.«01_k».proof.Proof.KArr3
public import proofs.«01_k».proof.Proof.KArr5

@[expose] public section

set_option maxRecDepth 16384

noncomputable section

namespace Cert.KernelIdeal.Val

open Idealize.ShloMosaic Idealize.ShloMosaic.TcCoe Idealize.SL.Sem
open Cert.KernelIdeal Cert.KernelIdeal.Gen

/-- The pixel `h`, `v` of batch entry `b` as a row of all pixels. -/
abbrev pix (b : Fin 2) (h v : Fin 32) : Fin 2048 := ⟨b * 1024 + h * 32 + v, by omega⟩
/-- The pixel `h`, `v` as a row of an image's pixels. -/
abbrev px (h v : Fin 32) : Fin 1024 := ⟨h * 32 + v, by omega⟩
/-- Channel `d` of part `o` of the mixed channels. -/
abbrev mixCh (o : Fin 6) (d : Fin 64) : Fin 384 := ⟨o * 64 + d, by omega⟩
/-- Head `hd` of batch entry `b`. -/
abbrev bh (b : Fin 2) (hd : Fin 4) : Fin 8 := ⟨b * 4 + hd, by omega⟩

/-- A sum over all channels, group by group. -/
theorem sum_grp (F : Fin 128 → EReal) : ∑ k, F k = ∑ t : Fin 2, ∑ d : Fin 64, F (Block.grp t d) := by
  symm
  refine Fin.sum_mul_add_congr fun s k hl => ?_
  rfl

/-- The first region: the layer norm and the channel mixing. -/
theorem mid0 (a : Block.Args) (x : FVec Ideal S2048x128 .f32) (g o : FVec Ideal S1x128 .f32) (w : FVec Ideal S128x384 .f32)
    (hx : ∀ b h v c, x (ix2 (pix b h v) c) = a.x (ix4 b c h v)) (hg : ∀ c, g (ix2 0 c) = a.g1 (ix1 c))
    (ho : ∀ c, o (ix2 0 c) = a.b1 (ix1 c))
    (hw : ∀ (t : Fin 2) (d : Fin 64) (o : Fin 6) (e : Fin 64), w (ix2 ⟨t * 64 + d, by omega⟩ ⟨o * 64 + e, by omega⟩)
      = a.wq (ix2 o t) * (if d = e then (1 : EReal) else 0 : EReal))
    (b : Fin 2) (h v : Fin 32) (p : Fin 6) (e : Fin 64) :
    out0_4 (F := Ideal) x g o w (ix2 (pix b h v) (mixCh p e)) = Block.qkv0 a b p e h v := by
  rw [out0_apply, sum_grp]
  simp only [hx, hg, ho]
  unfold Block.qkv0
  refine Finset.sum_congr rfl fun t _ => ?_
  rw [Finset.sum_eq_single e]
  · rw [show w (ix2 (Block.grp t e) (mixCh p e)) = _ from hw t e p e, if_pos rfl, mul_one]
    rfl
  · intro d _ hd
    rw [show w (ix2 (Block.grp t d) (mixCh p e)) = _ from hw t d p e, if_neg hd, mul_zero, mul_zero]
  · exact fun hn => absurd (Finset.mem_univ _) hn

/-- The second region: the convolution. -/
theorem mid1 (a : Block.Args) (x : FVec Ideal S2x34x34x384 .f32) (w : FVec Ideal S9x384 .f32)
    (hx : ∀ b i j o d, x (ix4 b i j (mixCh o d)) = Block.pad2 (Block.qkv0 a b o d) i j)
    (hw : ∀ (i j : Fin 3) o d, w (ix2 ⟨i * 3 + j, by omega⟩ (mixCh o d)) = a.wd (ix4 o 0 i j))
    (b : Fin 2) (h v : Fin 32) (o : Fin 6) (d : Fin 64) :
    G1_2 x w (ix4 b h v (mixCh o d)) = Block.qkv a b o d h v := by
  refine (out1_apply (fun y => x (ix4 b (y 1 : Fin 34) (y 2 : Fin 34) (y 3 : Fin 384))) w h v (mixCh o d)).trans ?_
  have w00 := hw 0 0 o d; have w01 := hw 0 1 o d; have w02 := hw 0 2 o d
  have w10 := hw 1 0 o d; have w11 := hw 1 1 o d; have w12 := hw 1 2 o d
  have w20 := hw 2 0 o d; have w21 := hw 2 1 o d; have w22 := hw 2 2 o d
  unfold Block.qkv Block.conv9
  refine congrArg₂ _ (congrArg₂ _ (congrArg₂ _ (congrArg₂ _ (congrArg₂ _ (congrArg₂ _ (congrArg₂ _ (congrArg₂ _
    (congrArg₂ _ (hx b _ _ o d) w00) (congrArg₂ _ (hx b _ _ o d) w01)) (congrArg₂ _ (hx b _ _ o d) w02))
    (congrArg₂ _ (hx b _ _ o d) w10)) (congrArg₂ _ (hx b _ _ o d) w11)) (congrArg₂ _ (hx b _ _ o d) w12))
    (congrArg₂ _ (hx b _ _ o d) w20)) (congrArg₂ _ (hx b _ _ o d) w21)) (congrArg₂ _ (hx b _ _ o d) w22)

/-- The third region: the normalised queries, times the temperature. -/
theorem mid2q (a : Block.Args) (q k : FVec Ideal S8x16x2048 .f32) (u : FVec Ideal S8x1x1 .f32)
    (hq : ∀ b hd c n, q (ix3 (bh b hd) c n) = Block.zz a 0 b hd c n)
    (hu : ∀ b hd, u (ix3 (bh b hd) 0 0) = a.tm (ix4 0 hd 0 0)) (b : Fin 2) (hd : Fin 4) (c : Fin 16) (n : Fin 2048) :
    G2_3 q k u (ix3 (bh b hd) c n) = Block.nrm a 0 b hd c n * a.tm (ix4 0 hd 0 0) := by
  refine (out2q_apply _ _ _ c n).trans ?_
  unfold Block.nrm
  simp only [← hq, ← hu b]
  rfl

/-- … and the normalised keys. -/
theorem mid2k (a : Block.Args) (q k : FVec Ideal S8x16x2048 .f32) (u : FVec Ideal S8x1x1 .f32)
    (hk : ∀ b hd c n, k (ix3 (bh b hd) c n) = Block.zz a 1 b hd c n) (b : Fin 2) (hd : Fin 4) (c : Fin 16) (n : Fin 2048) :
    G2_4 q k u (ix3 (bh b hd) c n) = Block.nrm a 1 b hd c n := by
  refine (out2k_apply _ _ _ c n).trans ?_
  unfold Block.nrm
  simp only [← hk]
  rfl

/-- The kernel's attention. -/
def attKer (a : Block.Args) (b : Fin 2) (hd : Fin 4) (c : Fin 16) (n : Fin 2048) : EReal :=
  Block.attK (Block.scK a b hd n) (Block.zz a 2 b hd c)

/-- The fourth region: the attention. -/
theorem mid3 (a : Block.Args) (q k : FVec Ideal S8x16x2048 .f32) (u : FVec Ideal S8x2048x16 .f32)
    (hq : ∀ b hd c n, q (ix3 (bh b hd) c n) = Block.nrm a 0 b hd c n * a.tm (ix4 0 hd 0 0))
    (hk : ∀ b hd c n, k (ix3 (bh b hd) c n) = Block.nrm a 1 b hd c n)
    (hu : ∀ b hd c n, u (ix3 (bh b hd) n c) = Block.zz a 2 b hd c n) (b : Fin 2) (hd : Fin 4) (c : Fin 16) (n : Fin 2048) :
    G3 q k u (ix3 (bh b hd) n c) = attKer a b hd c n := by
  unfold attKer
  refine congrArg₂ Block.attK (funext fun m => Finset.sum_congr rfl fun d _ => ?_) (funext fun m => hu b hd c m)
  exact congrArg₂ _ (hq b hd d n) (hk b hd d m)

/-- The fifth region: the projection and the first residual sum. -/
theorem mid4x (a : Block.Args) (att : Fin 2 → Fin 4 → Fin 16 → Fin 2048 → EReal) (y x : FVec Ideal S2048x128 .f32)
    (w : FVec Ideal S128x128 .f32) (g o : FVec Ideal S1x128 .f32) (f : FVec Ideal S64x128 .f32)
    (hy : ∀ b h v k, y (ix2 (pix b h v) k) = Block.chans (att b) h v k)
    (hx : ∀ b h v c, x (ix2 (pix b h v) c) = a.x (ix4 b c h v)) (hw : w = a.pw) (b : Fin 2) (h v : Fin 32) (c : Fin 128) :
    out4_6 (F := Ideal) y x w g o f (ix2 (pix b h v) c) = Block.res1 a att b h v c := by
  rw [out4x_apply]
  simp only [hy, hx, hw]
  rfl

/-- … and the feed-forward part's first product. -/
theorem mid4h (a : Block.Args) (att : Fin 2 → Fin 4 → Fin 16 → Fin 2048 → EReal) (y x : FVec Ideal S2048x128 .f32)
    (w : FVec Ideal S128x128 .f32) (g o : FVec Ideal S1x128 .f32) (f : FVec Ideal S64x128 .f32)
    (hy : ∀ b h v k, y (ix2 (pix b h v) k) = Block.chans (att b) h v k)
    (hx : ∀ b h v c, x (ix2 (pix b h v) c) = a.x (ix4 b c h v)) (hw : w = a.pw)
    (hg : ∀ c, g (ix2 0 c) = a.g2 (ix1 c)) (ho : ∀ c, o (ix2 0 c) = a.b2 (ix1 c)) (hf : f = a.fi)
    (b : Fin 2) (h v : Fin 32) (e : Fin 64) :
    out4_7 (F := Ideal) y x w g o f (ix2 (pix b h v) e) = Block.ffn0 a att b e h v := by
  rw [out4h_apply]
  simp only [hy, hx, hw, hg, ho, hf]
  rfl

/-- The last region: the second convolution, the feed-forward part's second product and the last residual sum. -/
theorem mid5 (a : Block.Args) (att : Fin 2 → Fin 4 → Fin 16 → Fin 2048 → EReal) (x : FVec Ideal S2x34x34x64 .f32)
    (w : FVec Ideal S9x64 .f32) (fo : FVec Ideal S128x64 .f32) (r : FVec Ideal S2x1024x128 .f32)
    (hx : ∀ b i j f, x (ix4 b i j f) = Block.pad2 (Block.ffn0 a att b f) i j)
    (hw : ∀ (i j : Fin 3) f, w (ix2 ⟨i * 3 + j, by omega⟩ f) = a.fd (ix4 f 0 i j)) (hf : fo = a.fo)
    (hr : ∀ b h v c, r (ix3 b (px h v) c) = Block.res1 a att b h v c) (b : Fin 2) (h v : Fin 32) (c : Fin 128) :
    G5_4 x w fo r (ix3 b (px h v) c) = Block.out a att b c h v := by
  refine (out5_apply (fun y => x (ix4 b (y 1 : Fin 34) (y 2 : Fin 34) (y 3 : Fin 64))) w fo
    (fun y => r (ix3 b (y 1 : Fin 1024) (y 2 : Fin 128))) h v c).trans ?_
  unfold Block.out Block.conv9
  refine congrArg₂ _ (hr b h v c) (Finset.sum_congr rfl fun f _ => ?_)
  have w00 := hw 0 0 f; have w01 := hw 0 1 f; have w02 := hw 0 2 f
  have w10 := hw 1 0 f; have w11 := hw 1 1 f; have w12 := hw 1 2 f
  have w20 := hw 2 0 f; have w21 := hw 2 1 f; have w22 := hw 2 2 f
  refine congrArg₂ _ (congrArg₂ max ?_ rfl) (congrFun hf _)
  refine congrArg₂ _ (congrArg₂ _ (congrArg₂ _ (congrArg₂ _ (congrArg₂ _ (congrArg₂ _ (congrArg₂ _ (congrArg₂ _
    (congrArg₂ _ (hx b _ _ f) w00) (congrArg₂ _ (hx b _ _ f) w01)) (congrArg₂ _ (hx b _ _ f) w02))
    (congrArg₂ _ (hx b _ _ f) w10)) (congrArg₂ _ (hx b _ _ f) w11)) (congrArg₂ _ (hx b _ _ f) w12))
    (congrArg₂ _ (hx b _ _ f) w20)) (congrArg₂ _ (hx b _ _ f) w21)) (congrArg₂ _ (hx b _ _ f) w22)

end Cert.KernelIdeal.Val

end

end
-- ==== Proof.KHost.lean ====
/-
  The host operations between the kernel's regions, read at an index.
-/
module

public import proofs.«01_k».proof.Proof.KOut

@[expose] public section

set_option maxRecDepth 16384

noncomputable section

namespace Cert.KernelIdeal.Val

open Idealize.ShloMosaic Idealize.ShloMosaic.TcCoe Idealize.SL.Sem
open Cert.KernelIdeal Cert.KernelIdeal.Gen

/-- The buffers' contents at one point of the host program. -/
abbrev Vv := Valuation τ sig (Elt Ideal)

/-- The input with its channels last, one row a pixel. -/
theorem h_v1 (V : Vv) (b : Fin 2) (h v : Fin 32) (c : Fin 128) :
    (StableHlo.after hostOps0 V (Proc.devRef .tc main_v1) : FVec Ideal S2048x128 .f32) (ix2 ⟨b * 1024 + h * 32 + v, by omega⟩ c)
      = (V (Proc.devRef .tc main_arg0) : FVec Ideal S2x128x32x32 .f32) (ix4 b c h v) := by
  after_results
  pointwise
  try blk_ext

/-- The first layer norm's weights. -/
theorem h_v15 (V : Vv) (c : Fin 128) :
    (StableHlo.after hostOps0 V (Proc.devRef .tc main_v15) : FVec Ideal S1x128 .f32) (ix2 0 c)
      = (V (Proc.devRef .tc main_arg1) : FVec Ideal S128 .f32) (ix1 c) := by
  after_results
  pointwise
  try blk_ext

/-- The first layer norm's offsets. -/
theorem h_v16 (V : Vv) (c : Fin 128) :
    (StableHlo.after hostOps0 V (Proc.devRef .tc main_v16) : FVec Ideal S1x128 .f32) (ix2 0 c)
      = (V (Proc.devRef .tc main_arg2) : FVec Ideal S128 .f32) (ix1 c) := by
  after_results
  pointwise
  try blk_ext

/-- A comparison's bit as a float. -/
theorem eqbit (d e : Fin 64) : (FloatOps.uitofp .f32
    (IntOp.cmpi .eq (IntOp.addi (BitVec.ofNat 32 d) 0#32) (BitVec.ofNat 32 e)) : Ideal .f32)
      = (if d = e then (1 : EReal) else 0 : EReal) := by
  have h : (BitVec.ofNat 32 d.val = BitVec.ofNat 32 e.val) ↔ d = e := by
    constructor
    · intro h
      have := congrArg BitVec.toNat h
      simp only [BitVec.toNat_ofNat] at this
      omega
    · rintro rfl
      rfl
  have h1 : IntOp.cmpi .eq (IntOp.addi (BitVec.ofNat 32 d.val) 0#32) (BitVec.ofNat 32 e.val)
      = if d = e then 1#1 else 0#1 := by
    have h2 : IntOp.addi (BitVec.ofNat 32 d.val) 0#32 = BitVec.ofNat 32 d.val := BitVec.add_zero _
    rw [h2]
    by_cases hde : d = e
    · subst hde
      simp [IntOp.cmpi]
    · have := mt h.1 hde
      simp only [IntOp.cmpi, hde, if_false, beq_eq_false_iff_ne.2 this]
      rfl
  rw [h1]
  split
  · exact show ((((1#1 : BitVec 1).toNat : ℝ)) : EReal) = 1 by simp
  · exact show ((((0#1 : BitVec 1).toNat : ℝ)) : EReal) = 0 by simp

/-- The channel mixing as a matrix: the weight of a group where the channels within the group agree. -/
theorem h_v14 (V : Vv) (w : FVec Ideal S6x2 .f32) (hw : V (Proc.devRef .tc main_arg3) = w) (t : Fin 2) (d : Fin 64) (o : Fin 6) (e : Fin 64) :
    (StableHlo.after hostOps0 V (Proc.devRef .tc main_v14) : FVec Ideal S128x384 .f32)
        (ix2 ⟨t * 64 + d, by omega⟩ ⟨o * 64 + e, by omega⟩)
      = w (ix2 o t) * (if d = e then (1 : EReal) else 0 : EReal) := by
  after_results
  pointwise
  rw [eqbit, hw]

/-- The first region's result by pixel. -/
theorem h_v18 (V : Vv) (b : Fin 2) (h v : Fin 32) (q : Fin 384) :
    (StableHlo.after hostOps1 V (Proc.devRef .tc main_v18) : FVec Ideal S2x32x32x384 .f32) (ix4 b h v q)
      = (V (Proc.devRef .tc main_v17) : FVec Ideal S2048x384 .f32) (ix2 ⟨b * 1024 + h * 32 + v, by omega⟩ q) := by
  after_results
  pointwise
  try blk_ext

/-- The padding's value. -/
theorem h_c0 (V : Vv) : (StableHlo.after hostOps1 V (Proc.devRef .tc main_c_0) : IVec S_ 32) = constantI S_ 32 0#32 := by
  after_results

/-- The padding's value. -/
theorem h_c1 (V : Vv) : (StableHlo.after hostOps5 V (Proc.devRef .tc main_c_1) : IVec S_ 32) = constantI S_ 32 0#32 := by
  after_results

/-- The integer zero as a float. -/
theorem zero_float : (FloatOps.sitofp .f32 0#32 : Ideal .f32) = (0 : EReal) :=
  show ((((0#32 : BitVec 32).toInt : ℝ)) : EReal) = 0 by simp

/-- The mixed channels with a border of zeros. -/
theorem h_v19 (V : Vv) (hc : (V (Proc.devRef .tc main_c_0) : IVec S_ 32) = constantI S_ 32 0#32) (b : Fin 2) (i j : Fin 34) (q : Fin 384) :
    (StableHlo.after hostOps1_1 V (Proc.devRef .tc main_v19) : FVec Ideal S2x34x34x384 .f32) (ix4 b i j q)
      = Block.pad2 (fun h v => (V (Proc.devRef .tc main_v18) : FVec Ideal S2x32x32x384 .f32) (ix4 b h v q)) i j := by
  after_results
  simp only [hc, StableHlo.TRef.toBuf, StableHlo.TRef.ofBuf, cast_eq]
  pointwise [Block.pad2]
  rw [zero_float]

/-- The feed-forward part's first product with a border of zeros. -/
theorem h_v48 (V : Vv) (hc : (V (Proc.devRef .tc main_c_1) : IVec S_ 32) = constantI S_ 32 0#32) (b : Fin 2) (i j : Fin 34) (q : Fin 64) :
    (StableHlo.after hostOps5_1 V (Proc.devRef .tc main_v48) : FVec Ideal S2x34x34x64 .f32) (ix4 b i j q)
      = Block.pad2 (fun h v => (V (Proc.devRef .tc main_v47) : FVec Ideal S2x32x32x64 .f32) (ix4 b h v q)) i j := by
  after_results
  simp only [hc, StableHlo.TRef.toBuf, StableHlo.TRef.ofBuf, cast_eq]
  pointwise [Block.pad2]
  rw [zero_float]

/-- The first convolution's weights, one row a tap. -/
theorem h_v24 (V : Vv) (i j : Fin 3) (o : Fin 6) (d : Fin 64) :
    (StableHlo.after hostOps1_2 V (Proc.devRef .tc main_v24) : FVec Ideal S9x384 .f32) (ix2 ⟨i * 3 + j, by omega⟩ ⟨o * 64 + d, by omega⟩)
      = (V (Proc.devRef .tc main_arg4) : FVec Ideal S6x1x3x3 .f32) (ix4 o 0 i j) := by
  after_results
  pointwise
  try blk_ext

/-- The queries by batch and head. -/
theorem h_v29 (V : Vv) (b : Fin 2) (hd : Fin 4) (c : Fin 16) (n : Fin 2048) :
    (StableHlo.after hostOps2 V (Proc.devRef .tc main_v29) : FVec Ideal S8x16x2048 .f32) (ix3 ⟨b * 4 + hd, by omega⟩ c n)
      = (V (Proc.devRef .tc main_v25) : FVec Ideal S2x32x32x384 .f32) (ix4 b (Block.hOf n) (Block.vOf n) ⟨(0 + n % 2) * 64 + hd * 16 + c, by omega⟩) := by
  after_results
  pointwise
  try blk_ext [Block.hOf, Block.vOf]

/-- The keys by batch and head. -/
theorem h_v32 (V : Vv) (b : Fin 2) (hd : Fin 4) (c : Fin 16) (n : Fin 2048) :
    (StableHlo.after hostOps2 V (Proc.devRef .tc main_v32) : FVec Ideal S8x16x2048 .f32) (ix3 ⟨b * 4 + hd, by omega⟩ c n)
      = (V (Proc.devRef .tc main_v25) : FVec Ideal S2x32x32x384 .f32) (ix4 b (Block.hOf n) (Block.vOf n) ⟨(2 + n % 2) * 64 + hd * 16 + c, by omega⟩) := by
  after_results
  pointwise
  try blk_ext [Block.hOf, Block.vOf]

/-- The values by batch and head. -/
theorem h_v35 (V : Vv) (b : Fin 2) (hd : Fin 4) (c : Fin 16) (n : Fin 2048) :
    (StableHlo.after hostOps2 V (Proc.devRef .tc main_v35) : FVec Ideal S8x2048x16 .f32) (ix3 ⟨b * 4 + hd, by omega⟩ n c)
      = (V (Proc.devRef .tc main_v25) : FVec Ideal S2x32x32x384 .f32) (ix4 b (Block.hOf n) (Block.vOf n) ⟨(4 + n % 2) * 64 + hd * 16 + c, by omega⟩) := by
  after_results
  pointwise
  try blk_ext [Block.hOf, Block.vOf]

/-- The temperature by batch and head. -/
theorem h_v38 (V : Vv) (b : Fin 2) (hd : Fin 4) :
    (StableHlo.after hostOps2 V (Proc.devRef .tc main_v38) : FVec Ideal S8x1x1 .f32) (ix3 ⟨b * 4 + hd, by omega⟩ 0 0)
      = (V (Proc.devRef .tc main_arg5) : FVec Ideal S1x4x1x1 .f32) (ix4 0 hd 0 0) := by
  after_results
  pointwise
  try blk_ext

/-- The attention's result by pixel and channel. -/
theorem h_v43 (V : Vv) (b : Fin 2) (h v : Fin 32) (k : Fin 128) :
    (StableHlo.after hostOps4 V (Proc.devRef .tc main_v43) : FVec Ideal S2048x128 .f32) (ix2 ⟨b * 1024 + h * 32 + v, by omega⟩ k)
      = (V (Proc.devRef .tc main_v40) : FVec Ideal S8x2048x16 .f32) (ix3 ⟨b * 4 + k / 16 % 4, by omega⟩ (Block.posOf h v ⟨k / 64, by omega⟩) ⟨k % 16, by omega⟩) := by
  after_results
  pointwise
  try blk_ext [Block.posOf]

/-- The second layer norm's weights. -/
theorem h_v44 (V : Vv) (c : Fin 128) :
    (StableHlo.after hostOps4 V (Proc.devRef .tc main_v44) : FVec Ideal S1x128 .f32) (ix2 0 c)
      = (V (Proc.devRef .tc main_arg7) : FVec Ideal S128 .f32) (ix1 c) := by
  after_results
  pointwise
  try blk_ext

/-- The second layer norm's offsets. -/
theorem h_v45 (V : Vv) (c : Fin 128) :
    (StableHlo.after hostOps4 V (Proc.devRef .tc main_v45) : FVec Ideal S1x128 .f32) (ix2 0 c)
      = (V (Proc.devRef .tc main_arg8) : FVec Ideal S128 .f32) (ix1 c) := by
  after_results
  pointwise
  try blk_ext

/-- The feed-forward part's first product by pixel. -/
theorem h_v47 (V : Vv) (b : Fin 2) (h v : Fin 32) (f : Fin 64) :
    (StableHlo.after hostOps5 V (Proc.devRef .tc main_v47) : FVec Ideal S2x32x32x64 .f32) (ix4 b h v f)
      = (V (Proc.devRef .tc main_v46_1) : FVec Ideal S2048x64 .f32) (ix2 ⟨b * 1024 + h * 32 + v, by omega⟩ f) := by
  after_results
  pointwise
  try blk_ext

/-- The second convolution's weights, one row a tap. -/
theorem h_v51 (V : Vv) (i j : Fin 3) (f : Fin 64) :
    (StableHlo.after hostOps5_2 V (Proc.devRef .tc main_v51) : FVec Ideal S9x64 .f32) (ix2 ⟨i * 3 + j, by omega⟩ f)
      = (V (Proc.devRef .tc main_arg10) : FVec Ideal S64x1x3x3 .f32) (ix4 f 0 i j) := by
  after_results
  pointwise
  try blk_ext

/-- The first residual sum by batch and pixel. -/
theorem h_v52 (V : Vv) (b : Fin 2) (h v : Fin 32) (c : Fin 128) :
    (StableHlo.after hostOps5_2 V (Proc.devRef .tc main_v52) : FVec Ideal S2x1024x128 .f32) (ix3 b ⟨h * 32 + v, by omega⟩ c)
      = (V (Proc.devRef .tc main_v46_0) : FVec Ideal S2048x128 .f32) (ix2 ⟨b * 1024 + h * 32 + v, by omega⟩ c) := by
  after_results
  pointwise
  try blk_ext

/-- The result with its channels second. -/
theorem h_v55 (V : Vv) (b : Fin 2) (h v : Fin 32) (c : Fin 128) :
    (StableHlo.after hostOps6 V (Proc.devRef .tc main_v55) : FVec Ideal S2x128x32x32 .f32) (ix4 b c h v)
      = (V (Proc.devRef .tc main_v53) : FVec Ideal S2x1024x128 .f32) (ix3 b ⟨h * 32 + v, by omega⟩ c) := by
  after_results
  pointwise
  try blk_ext

end Cert.KernelIdeal.Val

end

end
-- ==== Proof.KVal.lean ====
/-
  The kernel's result from its arguments, one region and one stretch of host operations at a time.
-/
module

public import proofs.«01_k».proof.Proof.KMid
public import proofs.«01_k».proof.Proof.KHost

@[expose] public section

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The argument arrays on device `c`. -/
def argsK (c : Dev nD) : Block.Args where
  x := m ((c : Thread nD τ).loc main_arg0)
  g1 := m ((c : Thread nD τ).loc main_arg1)
  b1 := m ((c : Thread nD τ).loc main_arg2)
  wq := m ((c : Thread nD τ).loc main_arg3)
  wd := m ((c : Thread nD τ).loc main_arg4)
  tm := m ((c : Thread nD τ).loc main_arg5)
  pw := m ((c : Thread nD τ).loc main_arg6)
  g2 := m ((c : Thread nD τ).loc main_arg7)
  b2 := m ((c : Thread nD τ).loc main_arg8)
  fi := m ((c : Thread nD τ).loc main_arg9)
  fd := m ((c : Thread nD τ).loc main_arg10)
  fo := m ((c : Thread nD τ).loc main_arg11)

/-- The input's rows at the first region's entry. -/
theorem v1_at (c : Dev nD) (b : Fin 2) (h v : Fin 32) (k : Fin 128) :
    (W1 m ρ c (Proc.devRef .tc main_v1) : FVec Ideal S2048x128 .f32) (ix2 (pix b h v) k) = (argsK m c).x (ix4 b k h v) :=
  h_v1 (W0 m ρ c) b h v k

/-- The mixed channels at the first region's exit. -/
theorem v17_at (c : Dev nD) (b : Fin 2) (h v : Fin 32) (o : Fin 6) (d : Fin 64) :
    (W2 m ρ c (Proc.devRef .tc main_v17) : FVec Ideal S2048x384 .f32) (ix2 (pix b h v) (mixCh o d))
      = Block.qkv0 (argsK m c) b o d h v := by
  have e : W2 m ρ c (Proc.devRef .tc main_v17) = out0_4 (V1 m ρ c main_v1) (V1 m ρ c main_v15) (V1 m ρ c main_v16) (V1 m ρ c main_v14) :=
    (W2_arr m ρ c 4).trans (arr0_4 (V1 m ρ) c)
  refine (congrFun e _).trans ?_
  exact mid0 (argsK m c) _ _ _ _ (v1_at m ρ c) (h_v15 (W0 m ρ c)) (h_v16 (W0 m ρ c))
    (h_v14 (W0 m ρ c) _ rfl) b h v o d

/-- The mixed channels with a border of zeros. -/
theorem v19_at (c : Dev nD) (b : Fin 2) (i j : Fin 34) (o : Fin 6) (d : Fin 64) :
    (W5 m ρ c (Proc.devRef .tc main_v19) : FVec Ideal S2x34x34x384 .f32) (ix4 b i j (mixCh o d))
      = Block.pad2 (Block.qkv0 (argsK m c) b o d) i j := by
  refine (congrFun (W5_of m ρ c main_v19 (by decide)) _).trans ?_
  refine (h_v19 (W3 m ρ c) (h_c0 (W2 m ρ c)) b i j (mixCh o d)).trans ?_
  refine congrArg (fun f => Block.pad2 f i j) (funext fun h => funext fun v => ?_)
  exact (h_v18 (W2 m ρ c) b h v (mixCh o d)).trans (v17_at m ρ c b h v o d)

/-- The first convolution's weights. -/
theorem v24_at (c : Dev nD) (i j : Fin 3) (o : Fin 6) (d : Fin 64) :
    (W5 m ρ c (Proc.devRef .tc main_v24) : FVec Ideal S9x384 .f32) (ix2 ⟨i * 3 + j, by omega⟩ (mixCh o d))
      = (argsK m c).wd (ix4 o 0 i j) :=
  (h_v24 (W4 m ρ c) i j o d).trans (congrFun (W4_args m ρ c main_arg4 (by decide)) _)

/-- Queries, keys and values by pixel at the second region's exit. -/
theorem v25_at (c : Dev nD) (b : Fin 2) (h v : Fin 32) (o : Fin 6) (d : Fin 64) :
    (W6 m ρ c (Proc.devRef .tc main_v25) : FVec Ideal S2x32x32x384 .f32) (ix4 b h v (mixCh o d))
      = Block.qkv (argsK m c) b o d h v := by
  have e : W6 m ρ c (Proc.devRef .tc main_v25) = G1_2 (V5 m ρ c main_v19) (V5 m ρ c main_v24) :=
    (W6_arr m ρ c 2).trans (arr1_2 (V5 m ρ) c)
  refine (congrFun e _).trans ?_
  exact mid1 (argsK m c) _ _ (v19_at m ρ c) (v24_at m ρ c) b h v o d

/-- Queries, keys or values by head: the same element by pixel. -/
theorem zz_at (c : Dev nD) (s : Fin 3) (b : Fin 2) (hd : Fin 4) (k : Fin 16) (n : Fin 2048) :
    (W6 m ρ c (Proc.devRef .tc main_v25) : FVec Ideal S2x32x32x384 .f32)
        (ix4 b (Block.hOf n) (Block.vOf n) ⟨(2 * s + n % 2) * 64 + hd * 16 + k, by omega⟩)
      = Block.zz (argsK m c) s b hd k n := by
  refine Eq.trans ?_ (v25_at m ρ c b (Block.hOf n) (Block.vOf n) ⟨2 * s + Block.tOf n, by omega⟩ (Block.chOf hd k))
  refine congrArg _ (congrArg (ix4 b _ _) (Fin.ext ?_))
  simp only [Block.tOf, Block.chOf, Nat.add_assoc]

/-- The queries at the third region's entry. -/
theorem v29_at (c : Dev nD) (b : Fin 2) (hd : Fin 4) (k : Fin 16) (n : Fin 2048) :
    (W7 m ρ c (Proc.devRef .tc main_v29) : FVec Ideal S8x16x2048 .f32) (ix3 (bh b hd) k n) = Block.zz (argsK m c) 0 b hd k n :=
  (h_v29 (W6 m ρ c) b hd k n).trans (zz_at m ρ c 0 b hd k n)

/-- The keys at the third region's entry. -/
theorem v32_at (c : Dev nD) (b : Fin 2) (hd : Fin 4) (k : Fin 16) (n : Fin 2048) :
    (W7 m ρ c (Proc.devRef .tc main_v32) : FVec Ideal S8x16x2048 .f32) (ix3 (bh b hd) k n) = Block.zz (argsK m c) 1 b hd k n :=
  (h_v32 (W6 m ρ c) b hd k n).trans (zz_at m ρ c 1 b hd k n)

/-- The values at the third region's entry. -/
theorem v35_at (c : Dev nD) (b : Fin 2) (hd : Fin 4) (k : Fin 16) (n : Fin 2048) :
    (W7 m ρ c (Proc.devRef .tc main_v35) : FVec Ideal S8x2048x16 .f32) (ix3 (bh b hd) n k) = Block.zz (argsK m c) 2 b hd k n :=
  (h_v35 (W6 m ρ c) b hd k n).trans (zz_at m ρ c 2 b hd k n)

/-- The temperature at the third region's entry. -/
theorem v38_at (c : Dev nD) (b : Fin 2) (hd : Fin 4) :
    (W7 m ρ c (Proc.devRef .tc main_v38) : FVec Ideal S8x1x1 .f32) (ix3 (bh b hd) 0 0) = (argsK m c).tm (ix4 0 hd 0 0) :=
  (h_v38 (W6 m ρ c) b hd).trans (congrFun (W6_args m ρ c main_arg5 (by decide)) _)

/-- The normalised queries at the third region's exit. -/
theorem v39q_at (c : Dev nD) (b : Fin 2) (hd : Fin 4) (k : Fin 16) (n : Fin 2048) :
    (W8 m ρ c (Proc.devRef .tc main_v39_0) : FVec Ideal S8x16x2048 .f32) (ix3 (bh b hd) k n)
      = Block.nrm (argsK m c) 0 b hd k n * (argsK m c).tm (ix4 0 hd 0 0) := by
  have e : W8 m ρ c (Proc.devRef .tc main_v39_0) = G2_3 (V7 m ρ c main_v29) (V7 m ρ c main_v32) (V7 m ρ c main_v38) :=
    (W8_arr m ρ c 3).trans (arr2_3 (V7 m ρ) c)
  refine (congrFun e _).trans ?_
  exact mid2q (argsK m c) _ _ _ (v29_at m ρ c) (v38_at m ρ c) b hd k n

/-- The normalised keys at the third region's exit. -/
theorem v39k_at (c : Dev nD) (b : Fin 2) (hd : Fin 4) (k : Fin 16) (n : Fin 2048) :
    (W8 m ρ c (Proc.devRef .tc main_v39_1) : FVec Ideal S8x16x2048 .f32) (ix3 (bh b hd) k n)
      = Block.nrm (argsK m c) 1 b hd k n := by
  have e : W8 m ρ c (Proc.devRef .tc main_v39_1) = G2_4 (V7 m ρ c main_v29) (V7 m ρ c main_v32) (V7 m ρ c main_v38) :=
    (W8_arr m ρ c 4).trans (arr2_4 (V7 m ρ) c)
  refine (congrFun e _).trans ?_
  exact mid2k (argsK m c) _ _ _ (v32_at m ρ c) b hd k n

/-- The attention's result at the fourth region's exit. -/
theorem v40_at (c : Dev nD) (b : Fin 2) (hd : Fin 4) (k : Fin 16) (n : Fin 2048) :
    (W9 m ρ c (Proc.devRef .tc main_v40) : FVec Ideal S8x2048x16 .f32) (ix3 (bh b hd) n k) = attKer (argsK m c) b hd k n := by
  have e : W9 m ρ c (Proc.devRef .tc main_v40) = G3 (V8 m ρ c main_v39_0) (V8 m ρ c main_v39_1) (V8 m ρ c main_v35) :=
    (W9_arr m ρ c 3).trans (arr3 (V8 m ρ) c)
  refine (congrFun e _).trans ?_
  exact mid3 (argsK m c) _ _ _ (v39q_at m ρ c) (v39k_at m ρ c)
    (fun b hd k n => (congrFun (W8_of m ρ c main_v35 (by decide +kernel)) _).trans (v35_at m ρ c b hd k n)) b hd k n

/-- The attention's result by pixel at the fifth region's entry. -/
theorem v43_at (c : Dev nD) (b : Fin 2) (h v : Fin 32) (k : Fin 128) :
    (W10 m ρ c (Proc.devRef .tc main_v43) : FVec Ideal S2048x128 .f32) (ix2 (pix b h v) k)
      = Block.chans (attKer (argsK m c) b) h v k :=
  (h_v43 (W9 m ρ c) b h v k).trans (v40_at m ρ c b ⟨k / 16 % 4, by omega⟩ ⟨k % 16, by omega⟩ (Block.posOf h v ⟨k / 64, by omega⟩))

/-- The input's rows at the fifth region's entry. -/
theorem v1_late (c : Dev nD) : W10 m ρ c (Proc.devRef .tc main_v1) = W1 m ρ c (Proc.devRef .tc main_v1) :=
  (W10_of m ρ c main_v1 (by decide)).trans <| (W9_of m ρ c main_v1 (by decide +kernel)).trans <|
  (W8_of m ρ c main_v1 (by decide +kernel)).trans <| (W7_of m ρ c main_v1 (by decide)).trans <|
  (W6_of m ρ c main_v1 (by decide +kernel)).trans <| (W5_of m ρ c main_v1 (by decide)).trans <|
  (W4_of m ρ c main_v1 (by decide)).trans <| (W3_of m ρ c main_v1 (by decide)).trans <|
  (W2_of m ρ c main_v1 (by decide +kernel))

/-- The first residual sum at the fifth region's exit. -/
theorem v46x_at (c : Dev nD) (b : Fin 2) (h v : Fin 32) (k : Fin 128) :
    (W11 m ρ c (Proc.devRef .tc main_v46_0) : FVec Ideal S2048x128 .f32) (ix2 (pix b h v) k)
      = Block.res1 (argsK m c) (attKer (argsK m c)) b h v k := by
  have e : W11 m ρ c (Proc.devRef .tc main_v46_0) = out4_6 (V10 m ρ c main_v43) (V10 m ρ c main_v1) (V10 m ρ c main_arg6)
      (V10 m ρ c main_v44) (V10 m ρ c main_v45) (V10 m ρ c main_arg9) :=
    (W11_arr m ρ c 6).trans (arr4_6 (V10 m ρ) c)
  refine (congrFun e _).trans ?_
  exact mid4x (argsK m c) (attKer (argsK m c)) _ _ _ _ _ _ (v43_at m ρ c)
    (fun b h v k => (congrFun (v1_late m ρ c) _).trans (v1_at m ρ c b h v k)) (W10_args m ρ c main_arg6 (by decide)) b h v k

/-- The feed-forward part's first product at the fifth region's exit. -/
theorem v46h_at (c : Dev nD) (b : Fin 2) (h v : Fin 32) (f : Fin 64) :
    (W11 m ρ c (Proc.devRef .tc main_v46_1) : FVec Ideal S2048x64 .f32) (ix2 (pix b h v) f)
      = Block.ffn0 (argsK m c) (attKer (argsK m c)) b f h v := by
  have e : W11 m ρ c (Proc.devRef .tc main_v46_1) = out4_7 (V10 m ρ c main_v43) (V10 m ρ c main_v1) (V10 m ρ c main_arg6)
      (V10 m ρ c main_v44) (V10 m ρ c main_v45) (V10 m ρ c main_arg9) :=
    (W11_arr m ρ c 7).trans (arr4_7 (V10 m ρ) c)
  refine (congrFun e _).trans ?_
  exact mid4h (argsK m c) (attKer (argsK m c)) _ _ _ _ _ _ (v43_at m ρ c)
    (fun b h v k => (congrFun (v1_late m ρ c) _).trans (v1_at m ρ c b h v k)) (W10_args m ρ c main_arg6 (by decide))
    (fun k => (h_v44 (W9 m ρ c) k).trans (congrFun (W9_args m ρ c main_arg7 (by decide)) _))
    (fun k => (h_v45 (W9 m ρ c) k).trans (congrFun (W9_args m ρ c main_arg8 (by decide)) _))
    (W10_args m ρ c main_arg9 (by decide)) b h v f

/-- … with a border of zeros at the last region's entry. -/
theorem v48_at (c : Dev nD) (b : Fin 2) (i j : Fin 34) (f : Fin 64) :
    (W14 m ρ c (Proc.devRef .tc main_v48) : FVec Ideal S2x34x34x64 .f32) (ix4 b i j f)
      = Block.pad2 (Block.ffn0 (argsK m c) (attKer (argsK m c)) b f) i j := by
  refine (congrFun (W14_of m ρ c main_v48 (by decide)) _).trans ?_
  refine (h_v48 (W12 m ρ c) (h_c1 (W11 m ρ c)) b i j f).trans ?_
  refine congrArg (fun f => Block.pad2 f i j) (funext fun h => funext fun v => ?_)
  exact (h_v47 (W11 m ρ c) b h v f).trans (v46h_at m ρ c b h v f)

/-- The first residual sum at the last region's entry. -/
theorem v52_at (c : Dev nD) (b : Fin 2) (h v : Fin 32) (k : Fin 128) :
    (W14 m ρ c (Proc.devRef .tc main_v52) : FVec Ideal S2x1024x128 .f32) (ix3 b (px h v) k)
      = Block.res1 (argsK m c) (attKer (argsK m c)) b h v k := by
  refine (h_v52 (W13 m ρ c) b h v k).trans ?_
  refine (congrFun (W13_of m ρ c main_v46_0 (by decide)) _).trans ?_
  refine (congrFun (W12_of m ρ c main_v46_0 (by decide)) _).trans ?_
  exact v46x_at m ρ c b h v k

/-- The kernel's result. -/
theorem v55_at (c : Dev nD) (b : Fin 2) (k : Fin 128) (h v : Fin 32) :
    (W16 m ρ c (Proc.devRef .tc main_v55) : FVec Ideal S2x128x32x32 .f32) (ix4 b k h v)
      = Block.out (argsK m c) (attKer (argsK m c)) b k h v := by
  refine (h_v55 (W15 m ρ c) b h v k).trans ?_
  have e : W15 m ρ c (Proc.devRef .tc main_v53) = G5_4 (V14 m ρ c main_v48) (V14 m ρ c main_v51) (V14 m ρ c main_arg11) (V14 m ρ c main_v52) :=
    (W15_arr m ρ c 4).trans (arr5_4 (V14 m ρ) c)
  refine (congrFun e _).trans ?_
  exact mid5 (argsK m c) (attKer (argsK m c)) _ _ _ _ (v48_at m ρ c)
    (fun i j f => (h_v51 (W13 m ρ c) i j f).trans (congrFun (W13_args m ρ c main_arg10 (by decide)) _))
    (W14_args m ρ c main_arg11 (by decide)) (v52_at m ρ c) b h v k

end Cert.KernelIdeal.Val

end

end
-- ==== Proof.RefA.lean ====
/-
  The reference program's values read at an index, up to the scores.
-/
module

public import proofs.«01_k».proof.Proof.Spec
public import proofs.«01_k».proof.Proof.Gen.ReferenceIdeal.Run

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value

variable (V : Valuation τ sig (Elt Ideal))

/-- The argument arrays. -/
def argsV : Block.Args where
  x := V (Proc.devRef .tc main_arg0)
  g1 := V (Proc.devRef .tc main_arg1)
  b1 := V (Proc.devRef .tc main_arg2)
  wq := V (Proc.devRef .tc main_arg3)
  wd := V (Proc.devRef .tc main_arg4)
  tm := V (Proc.devRef .tc main_arg5)
  pw := V (Proc.devRef .tc main_arg6)
  g2 := V (Proc.devRef .tc main_arg7)
  b2 := V (Proc.devRef .tc main_arg8)
  fi := V (Proc.devRef .tc main_arg9)
  fd := V (Proc.devRef .tc main_arg10)
  fo := V (Proc.devRef .tc main_arg11)

/-- The integer zero as a float. -/
theorem zero_float : (FloatOps.sitofp .f32 0#32 : Ideal .f32) = (0 : EReal) :=
  show ((((0#32 : BitVec 32).toInt : ℝ)) : EReal) = 0 by simp

/-- The first layer norm's means. -/
theorem r3 (b : Fin 2) (h v : Fin 32) :
    (res_main_v3 V : FVec Ideal S2x1x32x32 .f32) (ix4 b 0 h v) = Block.mean (fun c => (argsV V).x (ix4 b c h v)) := by
  unfold res_main_v3 Block.mean
  pointwise
  rfl

/-- The deviations from them. -/
theorem r5 (b : Fin 2) (c : Fin 128) (h v : Fin 32) :
    (res_main_v5 V : FVec Ideal S2x128x32x32 .f32) (ix4 b c h v) = Block.ctr (fun c => (argsV V).x (ix4 b c h v)) c := by
  unfold Block.ctr
  rw [← r3]
  unfold res_main_v5
  pointwise
  rfl

/-- The mixed channels with a border of zeros. -/
theorem r29 (b : Fin 2) (d : Fin 64) (o : Fin 6) (i j : Fin 34) :
    (res_main_v29 V : FVec Ideal S128x6x34x34 .f32) (ix4 ⟨b * 64 + d, by omega⟩ o i j)
      = Block.pad2 (Block.qkv0 (argsV V) b o d) i j := by
  unfold res_main_v29
  pointwise
  unfold Block.pad2
  have hb : b.val * 64 + d.val < 128 := by omega
  by_cases H : (1 ≤ i.val ∧ i.val - 1 < 32) ∧ 1 ≤ j.val ∧ j.val - 1 < 32
  · refine Eq.trans ?_ (dif_pos H).symm
    refine (dif_pos (And.intro hb H)).trans ?_
    simp only [r3, r5]
    rfl
  · rw [dif_neg fun h => H h.2, dif_neg H, zero_float]

/-- Queries, keys and values by pixel. -/
theorem r93 (b : Fin 2) (o : Fin 6) (d : Fin 64) (h v : Fin 32) :
    (res_main_v93 V : FVec Ideal S2x6x64x32x32 .f32) (ix5 b o d h v) = Block.qkv (argsV V) b o d h v := by
  unfold res_main_v93
  pointwise
  simp only [r29]
  unfold Block.qkv Block.conv9
  simp only [Nat.add_comm 1, Nat.add_comm 2]
  rfl

/-- The queries. -/
theorem r99 (b : Fin 2) (hd : Fin 4) (c : Fin 16) (n : Fin 2048) :
    (res_main_v99 V : FVec Ideal S2x4x16x2048 .f32) (ix4 b hd c n) = Block.zz (argsV V) 0 b hd c n := by
  unfold Block.zz
  rw [← r93]
  unfold res_main_v99
  pointwise
  rfl

/-- The keys. -/
theorem r102 (b : Fin 2) (hd : Fin 4) (c : Fin 16) (n : Fin 2048) :
    (res_main_v102 V : FVec Ideal S2x4x16x2048 .f32) (ix4 b hd c n) = Block.zz (argsV V) 1 b hd c n := by
  unfold Block.zz
  rw [← r93]
  unfold res_main_v102
  pointwise
  rfl

/-- A row divided by its norm, for every row of the last axis. -/
theorem nrm_at (z : FVec Ideal S2x4x16x2048 .f32) (b : Fin 2) (hd : Fin 4) (c : Fin 16) (n : Fin 2048) :
    (Host.divf z (broadcastInDim S2x4x16x2048 ![0, 1, 2, 3] bcast_S2x4x16x1_S2x4x16x2048_0_1_2_3 (maximumf (Host.sqrt (broadcastInDim S2x4x16x1 ![0, 1, 2] bcast_S2x4x16_S2x4x16x1_0_1_2 (Host.reduceAdd (mulf z z) (constant S_ .f32 0x00000000#32) reducesTo_S2x4x16x2048_S2x4x16_d3 h_S_))) (broadcastInDim S2x4x16x1 ![] bcast_S_S2x4x16x1 (constant S_ .f32 0x2B8CBCCC#32)))) : FVec Ideal S2x4x16x2048 .f32) (ix4 b hd c n)
      = Ideal.div (z (ix4 b hd c n)) (max (Ideal.sqrt (∑ l : Fin 2048, z (ix4 b hd c l) * z (ix4 b hd c l))) Block.cE12) := by
  pointwise

/-- The product of two arrays over the channels, times the temperature. -/
theorem prod_at (x y : FVec Ideal S2x4x16x2048 .f32) (w : FVec Ideal S1x4x1x1 .f32) (b : Fin 2) (hd : Fin 4) (n l : Fin 2048) :
    (mulf (Host.dotGeneral dot_S2x4x16x2048_S2x4x16x2048_S2x4x2048x2048_2_2_3_3_01_01 none x y)
      (broadcastInDim S2x4x2048x2048 ![0, 1, 2, 3] bcast_S1x4x1x1_S2x4x2048x2048_0_1_2_3 w) : FVec Ideal S2x4x2048x2048 .f32) (ix4 b hd n l)
      = (∑ c : Fin 16, x (ix4 b hd c n) * y (ix4 b hd c l)) * w (ix4 0 hd 0 0) := by
  pointwise

/-- The scores. -/
theorem r118 (b : Fin 2) (hd : Fin 4) (n l : Fin 2048) :
    (res_main_v118 V : FVec Ideal S2x4x2048x2048 .f32) (ix4 b hd n l) = Block.scR (argsV V) b hd n l := by
  unfold res_main_v118
  refine (prod_at _ _ _ b hd n l).trans ?_
  unfold Block.scR Block.nrm
  refine congrArg (· * (argsV V).tm (ix4 0 hd 0 0)) (Finset.sum_congr rfl fun c _ => ?_)
  rw [nrm_at, nrm_at]
  simp only [r99, r102]

end Cert.ReferenceIdeal.Val

end

end
-- ==== Proof.MaskA.lean ====
/-
  The mask's operations up to the normalised queries and keys.
-/
module

public import proofs.«01_k».proof.Proof.RefA
public import proofs.«01_k».proof.Proof.Gen.On_separated

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value

variable (V : Valuation τ sig (Elt Ideal))

/-- The mask's queries, keys and values by pixel are the reference's. -/
theorem mask_head (p : FVec Ideal S128x128 .f32) (g o : FVec Ideal S128 .f32) (fi : FVec Ideal S64x128 .f32) (fd : FVec Ideal S64x1x3x3 .f32) (fo : FVec Ideal S128x64 .f32) :
    ∃ x y z : FVec Ideal S128x6x32x32 .f32,
      Cert.On_separated.fn (F := Ideal) (V (Proc.devRef .tc main_arg0)) (V (Proc.devRef .tc main_arg1)) (V (Proc.devRef .tc main_arg2)) (V (Proc.devRef .tc main_arg3))
          (V (Proc.devRef .tc main_arg4)) (V (Proc.devRef .tc main_arg5)) p g o fi fd fo
        = Cert.On_separated.fn_part4 (V (Proc.devRef .tc main_arg5)) x y z
      ∧ (transpose S2x6x64x32x32 [0, 2, 1, 3, 4] (shapeCast S2x64x6x32x32 (addf x (mulf y z)) Cert.On_separated.Gen.facts.shapeCasts_S128x6x32x32_S2x64x6x32x32)
          Cert.On_separated.Gen.facts.transposes_S2x64x6x32x32_S2x6x64x32x32_0_2_1_3_4 : FVec Ideal S2x6x64x32x32 .f32)
        = res_main_v93 V := by
  unfold Cert.On_separated.fn Cert.On_separated.fn_part1 Cert.On_separated.fn_part2 Cert.On_separated.fn_part3
  exact ⟨_, _, _, rfl, rfl⟩

end Cert.ReferenceIdeal.Val

end

end
-- ==== Proof.TopK.lean ====
/-
  The greatest entries of the last axis by sorting, and a scatter of one constant into a vector, read at an index.
-/
module

public import Idealize.ShloMosaic.Lib.Routing.OpsPair
public import proofs.«01_k».proof.Proof.Bisect

@[expose] public section

set_option maxRecDepth 16384

noncomputable section

namespace Block

open Idealize.ShloMosaic

/-- An index of rank 4 with its last coordinate replaced. -/
theorem along_last {a b c d : ℕ} (i : Fin a) (j : Fin b) (k : Fin c) (l l' : Fin d) :
    Shape.Idx.along (s := ⟨4, ![a, b, c, d]⟩) (ix4 i j k l) 3 l' = ix4 i j k l' := by
  funext q
  fin_cases q <;> rfl

/-- A slice of the last axis that starts at its first entry. -/
theorem slice_at {α : Type} {K : ℕ} (hK : K ≤ 2048) (x : Shape.Idx ⟨4, ![2, 4, 2048, 2048]⟩ → α)
    (h : Shape.Slices ⟨4, ![2, 4, 2048, 2048]⟩ (fun _ => 0) ⟨4, ![2, 4, 2048, K]⟩) (b : Fin 2) (hd : Fin 4) (n : Fin 2048) (j : Fin K) :
    extractStridedSlice ⟨4, ![2, 4, 2048, K]⟩ (fun _ => 0) x h (ix4 b hd n j) = x (ix4 b hd n ⟨j, by omega⟩) := by
  unfold extractStridedSlice
  refine congrArg x (funext fun q => Fin.ext ?_)
  fin_cases q <;> exact Nat.zero_add _

/-- A row sorted, with the positions: the entry at `j`. -/
theorem sort_at {β : Type} (cmp : EReal × β → EReal × β → BitVec 1) (x : Shape.Idx ⟨4, ![2, 4, 2048, 2048]⟩ → EReal)
    (y : Shape.Idx ⟨4, ![2, 4, 2048, 2048]⟩ → β) (b : Fin 2) (hd : Fin 4) (n j : Fin 2048) :
    (Host.sort2 ⟨4, ![2, 4, 2048, 2048]⟩ 3 cmp x y).1 (ix4 b hd n j)
        = x (ix4 b hd n (sortedFrom (fun k k' => cmp (x (ix4 b hd n k), y (ix4 b hd n k)) (x (ix4 b hd n k'), y (ix4 b hd n k')) == 1#1) j))
      ∧ (Host.sort2 ⟨4, ![2, 4, 2048, 2048]⟩ 3 cmp x y).2 (ix4 b hd n j)
        = y (ix4 b hd n (sortedFrom (fun k k' => cmp (x (ix4 b hd n k), y (ix4 b hd n k)) (x (ix4 b hd n k'), y (ix4 b hd n k')) == 1#1) j)) := by
  unfold Host.sort2
  have h3 : 3 < (⟨4, ![2, 4, 2048, 2048]⟩ : Shape).rank := by decide
  have e : ∀ l : Fin (Shape.size ⟨4, ![2, 4, 2048, 2048]⟩ ⟨3, h3⟩), Shape.Idx.along (s := ⟨4, ![2, 4, 2048, 2048]⟩) (ix4 b hd n j) ⟨3, h3⟩ l = ix4 b hd n l := fun l => along_last b hd n _ l
  rw [dif_pos h3]
  constructor
  · dsimp only
    rw [e]
    simp only [e]
    rfl
  · dsimp only
    rw [e]
    simp only [e]
    rfl

/-- The `j`-th greatest entry of a row. -/
theorem topK_val {K : ℕ} (hK : K ≤ 2048) (x : FVec Ideal ⟨4, ![2, 4, 2048, 2048]⟩ .f32)
    (h : Shape.Slices ⟨4, ![2, 4, 2048, 2048]⟩ (fun _ => 0) ⟨4, ![2, 4, 2048, K]⟩) (b : Fin 2) (hd : Fin 4) (n : Fin 2048) (j : Fin K) :
    (Host.topK ⟨4, ![2, 4, 2048, K]⟩ 3 (FloatOps.cmpfTotal .gt) x h).1 (ix4 b hd n j)
      = x (ix4 b hd n (top (fun m => x (ix4 b hd n m)) ⟨j, by omega⟩)) := by
  unfold Host.topK top
  dsimp only
  rw [slice_at hK, (sort_at _ x _ b hd n _).1]
  rfl

/-- Its position. -/
theorem topK_idx {K : ℕ} (hK : K ≤ 2048) (x : FVec Ideal ⟨4, ![2, 4, 2048, 2048]⟩ .f32)
    (h : Shape.Slices ⟨4, ![2, 4, 2048, 2048]⟩ (fun _ => 0) ⟨4, ![2, 4, 2048, K]⟩) (b : Fin 2) (hd : Fin 4) (n : Fin 2048) (j : Fin K) :
    (Host.topK ⟨4, ![2, 4, 2048, K]⟩ 3 (FloatOps.cmpfTotal .gt) x h).2 (ix4 b hd n j)
      = BitVec.ofNat 32 (top (fun m => x (ix4 b hd n m)) ⟨j, by omega⟩).1 := by
  unfold Host.topK top
  dsimp only
  rw [slice_at hK, (sort_at _ x _ b hd n _).2]
  refine (dif_pos (by decide)).trans ?_
  rfl

/-- A fold that sets one constant. -/
theorem foldl_set {α ι : Type} (P : ι → Prop) [DecidablePred P] (u : α) (l : List ι) (a : α) :
    l.foldl (fun r n => if P n then u else r) a = if ∃ n ∈ l, P n then u else a := by
  induction l generalizing a with
  | nil => simp
  | cons n l ih =>
    rw [List.foldl_cons, ih]
    by_cases h : ∃ n ∈ l, P n
    · rw [if_pos h, if_pos (by obtain ⟨k, hk, hp⟩ := h; exact ⟨k, List.mem_cons_of_mem _ hk, hp⟩)]
    · rw [if_neg h]
      by_cases hn : P n
      · rw [if_pos hn, if_pos ⟨n, List.mem_cons_self, hn⟩]
      · rw [if_neg hn, if_neg]
        rintro ⟨k, hk, hp⟩
        rcases List.mem_cons.1 hk with rfl | hk
        · exact hn hp
        · exact h ⟨k, hk, hp⟩

open Classical in
/-- A scatter of one constant `u` into a vector: `u` where some index word is the position, the vector's entry elsewhere. -/
theorem scatter_const {α : Type} {N M : ℕ} (d : ScatterDims ⟨1, ![N]⟩ ⟨2, ![M, 1]⟩ ⟨1, ![M]⟩) (hu : d.updateWindowDims = []) (hi : d.insertedWindowDims = [0])
    (hs : d.scatterDimsToOperandDims = [0]) (hv : d.indexVectorDim = 1) (x : Shape.Idx ⟨1, ![N]⟩ → α) (idx : IVec ⟨2, ![M, 1]⟩ 32) (u : α)
    (e : Fin N) :
    Host.scatter d (fun _ b => b) x idx (fun _ => u) (ix1 e) = if ∃ k : Fin M, (idx (ix2 k 0)).toInt = (e.1 : ℤ) then u else x (ix1 e) := by
  rw [Routing.scatter_at]
  refine (foldl_set (fun n => d.resultIdx? ((⟨1, ![M]⟩ : Shape).rowMajor.symm n) idx = some (ix1 e)) u _ _).trans ?_
  have key : ∀ k : Fin M, d.resultIdx? (ix1 k) idx = some (ix1 e) ↔ (idx (ix2 k 0)).toInt = (e.1 : ℤ) := by
    intro k
    rw [Routing.resultIdx?_eq_some]
    have hw : d.window (ix1 k) 0 = 0 := by
      unfold ScatterDims.window
      refine dif_neg fun h => ?_
      have := (List.mem_filter.1 h).2
      rw [hi] at this
      simp at this
    have hm : (0 : Fin 1) ∈ d.scatterDimsToOperandDims := by rw [hs]; simp
    have hst : d.start (ix1 k) idx 0 = (idx (ix2 k 0)).toInt := by
      unfold ScatterDims.start
      refine (dif_pos hm).trans (congrArg (fun i => (idx i).toInt) ?_)
      funext q
      apply Fin.ext
      fin_cases q
      · unfold ScatterDims.siIdx
        refine (congrArg Fin.val (dif_neg (by rw [hv]; simp))).trans ?_
        unfold ScatterDims.siCoord
        simp only [Fin.val_cast]
        have ee : ∀ X : Fin 1, (ix1 k X).val = k.val := fun X => by
          rw [Subsingleton.elim X 0]; rfl
        exact ee _
      · exact Nat.lt_one_iff.1 (Fin.isLt _)
    constructor
    · intro h
      have h0 := h 0
      rw [hw, hst] at h0
      simpa using h0
    · intro h q
      fin_cases q
      show d.start (ix1 k) idx 0 + ((d.window (ix1 k) 0 : ℕ) : ℤ) = (e.1 : ℤ)
      rw [hw, hst]
      simpa using h
  have hiff : (∃ n ∈ List.finRange (⟨1, ![M]⟩ : Shape).numel, d.resultIdx? ((⟨1, ![M]⟩ : Shape).rowMajor.symm n) idx = some (ix1 e))
      ↔ ∃ k : Fin M, (idx (ix2 k 0)).toInt = (e.1 : ℤ) := by
    constructor
    · rintro ⟨n, _, hn⟩
      refine ⟨((⟨1, ![M]⟩ : Shape).rowMajor.symm n) 0, (key _).1 ?_⟩
      rw [← hn]
      congr 1
      funext q
      fin_cases q
      rfl
    · rintro ⟨k, hk⟩
      exact ⟨(⟨1, ![M]⟩ : Shape).rowMajor (ix1 k), List.mem_finRange _, by rw [Equiv.symm_apply_apply]; exact (key k).2 hk⟩
  by_cases H : ∃ k : Fin M, (idx (ix2 k 0)).toInt = (e.1 : ℤ)
  · rw [if_pos H, if_pos (hiff.2 H)]
  · rw [if_neg H, if_neg fun h => H (hiff.1 h)]

end Block

end

end
-- ==== Proof.Near.lean ====
/-
  The result at a pixel depends on the attention only at the pixels of its 3 by 3 neighbourhood; where the rows of those
  pixels are separated, the attention by halving and the attention by sorting give the same result.
-/
module

public import proofs.«01_k».proof.Proof.Bisect

@[expose] public section

noncomputable section

namespace Block

open Idealize.ShloMosaic

/-- The sum of the nine entries of the bordered image around a pixel. -/
def sum9 (f : Fin 32 → Fin 32 → EReal) (h v : Fin 32) : EReal :=
  pad2 f h v + pad2 f h (v + 1) + pad2 f h (v + 2) + pad2 f (h + 1) v + pad2 f (h + 1) (v + 1) + pad2 f (h + 1) (v + 2)
    + pad2 f (h + 2) v + pad2 f (h + 2) (v + 1) + pad2 f (h + 2) (v + 2)

/-- An image without negative entries has none when bordered by zeros. -/
theorem pad2_nonneg (f : Fin 32 → Fin 32 → EReal) (hf : ∀ h v, 0 ≤ f h v) (i j : ℕ) : 0 ≤ pad2 f i j := by
  unfold pad2
  split
  · exact hf _ _
  · exact le_refl _

/-- A sum of two terms that are at least 0 is at most 0 only where both are. -/
theorem le_zero_of_add (x y : EReal) (hx : 0 ≤ x) (hy : 0 ≤ y) (h : x + y ≤ 0) : x ≤ 0 ∧ y ≤ 0 :=
  ⟨le_trans (le_add_of_nonneg_right hy) h, le_trans (le_add_of_nonneg_left hx) h⟩

/-- Where the nine entries, each at least 0, sum to at most 0, each of them is at most 0. -/
theorem sum9_zero (f : Fin 32 → Fin 32 → EReal) (hf : ∀ h v, 0 ≤ f h v) (h v : Fin 32) (hs : sum9 f h v ≤ 0) (i j : Fin 3) :
    pad2 f (h + i) (v + j) ≤ 0 := by
  have p := fun i j => pad2_nonneg f hf i j
  unfold sum9 at hs
  have a8 := le_zero_of_add _ _ (by
    exact add_nonneg (add_nonneg (add_nonneg (add_nonneg (add_nonneg (add_nonneg (add_nonneg (p _ _) (p _ _)) (p _ _)) (p _ _)) (p _ _)) (p _ _)) (p _ _)) (p _ _)) (p _ _) hs
  have a7 := le_zero_of_add _ _ (by
    exact add_nonneg (add_nonneg (add_nonneg (add_nonneg (add_nonneg (add_nonneg (p _ _) (p _ _)) (p _ _)) (p _ _)) (p _ _)) (p _ _)) (p _ _)) (p _ _) a8.1
  have a6 := le_zero_of_add _ _ (by
    exact add_nonneg (add_nonneg (add_nonneg (add_nonneg (add_nonneg (p _ _) (p _ _)) (p _ _)) (p _ _)) (p _ _)) (p _ _)) (p _ _) a7.1
  have a5 := le_zero_of_add _ _ (by
    exact add_nonneg (add_nonneg (add_nonneg (add_nonneg (p _ _) (p _ _)) (p _ _)) (p _ _)) (p _ _)) (p _ _) a6.1
  have a4 := le_zero_of_add _ _ (by
    exact add_nonneg (add_nonneg (add_nonneg (p _ _) (p _ _)) (p _ _)) (p _ _)) (p _ _) a5.1
  have a3 := le_zero_of_add _ _ (by exact add_nonneg (add_nonneg (p _ _) (p _ _)) (p _ _)) (p _ _) a4.1
  have a2 := le_zero_of_add _ _ (by exact add_nonneg (p _ _) (p _ _)) (p _ _) a3.1
  have a1 := le_zero_of_add _ _ (p _ _) (p _ _) a2.1
  fin_cases i <;> fin_cases j
  · exact a1.1
  · exact a1.2
  · exact a2.2
  · exact a3.2
  · exact a4.2
  · exact a5.2
  · exact a6.2
  · exact a7.2
  · exact a8.2

/-- The pixel `h'`, `v'` is in the 3 by 3 neighbourhood of the pixel `h`, `v`. -/
def Near (h v h' v' : Fin 32) : Prop := ∃ i j : Fin 3, h'.1 + 1 = h.1 + i.1 ∧ v'.1 + 1 = v.1 + j.1

/-- A pixel is in its own neighbourhood. -/
theorem near_self (h v : Fin 32) : Near h v h v := ⟨1, 1, rfl, rfl⟩

/-- The bordered image at a shifted index is the image at the neighbour there. -/
theorem pad2_near (f : Fin 32 → Fin 32 → EReal) (h v : Fin 32) (i j : Fin 3) (h' v' : Fin 32) (hh : h'.1 + 1 = h.1 + i.1) (hv : v'.1 + 1 = v.1 + j.1) :
    pad2 f (h + i) (v + j) = f h' v' := by
  unfold pad2
  rw [← hh, ← hv]
  exact dif_pos ⟨⟨by omega, by omega⟩, by omega, by omega⟩

/-- Images equal on the neighbourhood of a pixel are equal, bordered, around it. -/
theorem pad2_congr (f g : Fin 32 → Fin 32 → EReal) (h v : Fin 32) (e : ∀ h' v', Near h v h' v' → f h' v' = g h' v') (i j : Fin 3) :
    pad2 f (h + i) (v + j) = pad2 g (h + i) (v + j) := by
  unfold pad2
  split
  · next H =>
    refine e _ _ ⟨i, j, ?_, ?_⟩
    · have := H.1.1
      show h.1 + i.1 - 1 + 1 = h.1 + i.1
      omega
    · have := H.2.1
      show v.1 + j.1 - 1 + 1 = v.1 + j.1
      omega
  · rfl

/-- Images equal on the neighbourhood of a pixel have equal convolutions at it. -/
theorem conv9_congr (f g : Fin 32 → Fin 32 → EReal) (w : Fin 3 → Fin 3 → EReal) (h v : Fin 32) (e : ∀ h' v', Near h v h' v' → f h' v' = g h' v') :
    conv9 f w h v = conv9 g w h v := by
  have p := pad2_congr f g h v e
  have e00 : pad2 f h v = pad2 g h v := p 0 0
  have e01 : pad2 f h (v + 1) = pad2 g h (v + 1) := p 0 1
  have e02 : pad2 f h (v + 2) = pad2 g h (v + 2) := p 0 2
  have e10 : pad2 f (h + 1) v = pad2 g (h + 1) v := p 1 0
  have e11 : pad2 f (h + 1) (v + 1) = pad2 g (h + 1) (v + 1) := p 1 1
  have e12 : pad2 f (h + 1) (v + 2) = pad2 g (h + 1) (v + 2) := p 1 2
  have e20 : pad2 f (h + 2) v = pad2 g (h + 2) v := p 2 0
  have e21 : pad2 f (h + 2) (v + 1) = pad2 g (h + 2) (v + 1) := p 2 1
  have e22 : pad2 f (h + 2) (v + 2) = pad2 g (h + 2) (v + 2) := p 2 2
  unfold conv9
  rw [e00, e01, e02, e10, e11, e12, e20, e21, e22]

/-- The result at a pixel from two attentions equal on its neighbourhood. -/
theorem out_congr (a : Args) (s t : Fin 2 → Fin 4 → Fin 16 → Fin 2048 → EReal) (b : Fin 2) (c : Fin 128) (h v : Fin 32)
    (e : ∀ h' v', Near h v h' v' → ∀ hd k g, s b hd k (posOf h' v' g) = t b hd k (posOf h' v' g)) :
    out a s b c h v = out a t b c h v := by
  have r : ∀ h' v', Near h v h' v' → res1 a s b h' v' = res1 a t b h' v' := by
    intro h' v' n
    funext c
    unfold res1 chans
    refine congrArg (a.x (ix4 b c h' v') + ·) (Finset.sum_congr rfl fun k _ => ?_)
    rw [e h' v' n]
  unfold out
  rw [r h v (near_self h v)]
  refine congrArg (res1 a t b h v c + ·) (Finset.sum_congr rfl fun f _ => ?_)
  rw [conv9_congr (ffn0 a s b f) (ffn0 a t b f) _ h v]
  intro h' v' n
  unfold ffn0
  rw [r h' v' n]

/-- The kernel's scores are the reference's where the row is separated. -/
theorem sc_eq (a : Args) (b : Fin 2) (hd : Fin 4) (n : Fin 2048) (g : Gap (scR a b hd n)) : scK a b hd n = scR a b hd n := by
  funext m
  exact temp_row (fun c => nrm a 0 b hd c n) (fun c m => nrm a 1 b hd c m) (a.tm (ix4 0 hd 0 0)) g m

/-- Where every row of the neighbourhood is separated, halving and sorting give the same result. -/
theorem out_eq (a : Args) (b : Fin 2) (c : Fin 128) (h v : Fin 32)
    (g : ∀ h' v', Near h v h' v' → ∀ hd t, Gap (scR a b hd (posOf h' v' t))) :
    out a (fun b hd c n => attK (scK a b hd n) (zz a 2 b hd c)) b c h v = out a (fun b hd c n => attR (scR a b hd n) (zz a 2 b hd c)) b c h v := by
  refine out_congr a _ _ b c h v fun h' v' n hd k t => ?_
  rw [sc_eq a b hd _ (g h' v' n hd t)]
  exact (attR_eq_attK _ _ (g h' v' n hd t)).symm

end Block

end

end
-- ==== Proof.MaskB.lean ====
/-
  The mask's operations from the queries and keys on, read at an index.
-/
module

public import proofs.«01_k».proof.Proof.TopK
public import proofs.«01_k».proof.Proof.Near
public import proofs.«01_k».proof.Proof.Gen.On_separated

@[expose] public section

set_option maxRecDepth 16384

noncomputable section

namespace Cert.On_separated.Val

open Idealize.ShloMosaic
open Cert.On_separated Cert.On_separated.Gen

attribute [local irreducible] Block.top

/-- The queries of a head. -/
theorem heads0_at (a : Block.Args) (w : FVec Ideal S2x6x64x32x32 .f32) (hw : ∀ b o d h v, w (ix5 b o d h v) = Block.qkv a b o d h v)
    (b : Fin 2) (hd : Fin 4) (c : Fin 16) (n : Fin 2048) :
    (shapeCast S2x4x16x2048 (transpose S2x4x16x32x32x2 [0, 2, 3, 4, 5, 1] (shapeCast S2x2x4x16x32x32 (extractStridedSlice S2x2x64x32x32 ![0, 0, 0, 0, 0] w slices_S2x6x64x32x32_S2x2x64x32x32_0_0_0_0_0) shapeCasts_S2x2x64x32x32_S2x2x4x16x32x32) transposes_S2x2x4x16x32x32_S2x4x16x32x32x2_0_2_3_4_5_1) shapeCasts_S2x4x16x32x32x2_S2x4x16x2048 : FVec Ideal S2x4x16x2048 .f32) (ix4 b hd c n)
      = Block.zz a 0 b hd c n := by
  unfold Block.zz
  rw [← hw]
  pointwise
  rfl

/-- The keys of a head. -/
theorem heads1_at (a : Block.Args) (w : FVec Ideal S2x6x64x32x32 .f32) (hw : ∀ b o d h v, w (ix5 b o d h v) = Block.qkv a b o d h v)
    (b : Fin 2) (hd : Fin 4) (c : Fin 16) (n : Fin 2048) :
    (shapeCast S2x4x16x2048 (transpose S2x4x16x32x32x2 [0, 2, 3, 4, 5, 1] (shapeCast S2x2x4x16x32x32 (extractStridedSlice S2x2x64x32x32 ![0, 2, 0, 0, 0] w slices_S2x6x64x32x32_S2x2x64x32x32_0_2_0_0_0) shapeCasts_S2x2x64x32x32_S2x2x4x16x32x32) transposes_S2x2x4x16x32x32_S2x4x16x32x32x2_0_2_3_4_5_1) shapeCasts_S2x4x16x32x32x2_S2x4x16x2048 : FVec Ideal S2x4x16x2048 .f32) (ix4 b hd c n)
      = Block.zz a 1 b hd c n := by
  unfold Block.zz
  rw [← hw]
  pointwise
  rfl

/-- The norm of a row. -/
theorem norm_at (z : FVec Ideal S2x4x16x2048 .f32) (b : Fin 2) (hd : Fin 4) (c : Fin 16) :
    (fn_norm z : FVec Ideal S2x4x16x1 .f32) (ix4 b hd c 0) = Ideal.sqrt (∑ l : Fin 2048, z (ix4 b hd c l) * z (ix4 b hd c l)) := by
  unfold fn_norm
  pointwise

/-- A row divided by a number per row, no less than a constant. -/
theorem quot_at (z : FVec Ideal S2x4x16x2048 .f32) (y : FVec Ideal S2x4x16x1 .f32) (b : Fin 2) (hd : Fin 4) (c : Fin 16) (n : Fin 2048) :
    (Host.divf z (broadcastInDim S2x4x16x2048 ![0, 1, 2, 3] bcast_S2x4x16x1_S2x4x16x2048_0_1_2_3 (maximumf y (broadcastInDim S2x4x16x1 ![] bcast_S_S2x4x16x1 (constant S_ .f32 0x2B8CBCCC#32)))) : FVec Ideal S2x4x16x2048 .f32) (ix4 b hd c n)
      = Ideal.div (z (ix4 b hd c n)) (max (y (ix4 b hd c 0)) Block.cE12) := by
  pointwise

/-- The products of two arrays over the channels, as sums of products, times the temperature. -/
theorem scores_at (x y : FVec Ideal S2x4x16x2048 .f32) (w : FVec Ideal S1x4x1x1 .f32) (b : Fin 2) (hd : Fin 4) (n l : Fin 2048) :
    (mulf (Host.reduceAdd (mulf (broadcastInDim S2x4x16x2048x2048 ![0, 1, 2, 3, 4] bcast_S2x4x16x2048x1_S2x4x16x2048x2048_0_1_2_3_4 (broadcastInDim S2x4x16x2048x1 ![0, 1, 2, 3] bcast_S2x4x16x2048_S2x4x16x2048x1_0_1_2_3 x))
          (broadcastInDim S2x4x16x2048x2048 ![0, 1, 2, 3, 4] bcast_S2x4x16x1x2048_S2x4x16x2048x2048_0_1_2_3_4 (broadcastInDim S2x4x16x1x2048 ![0, 1, 2, 4] bcast_S2x4x16x2048_S2x4x16x1x2048_0_1_2_4 y)))
        (constant S_ .f32 0x00000000#32) reducesTo_S2x4x16x2048x2048_S2x4x2048x2048_d2 h_S_)
      (broadcastInDim S2x4x2048x2048 ![0, 1, 2, 3] bcast_S1x4x1x1_S2x4x2048x2048_0_1_2_3 w) : FVec Ideal S2x4x2048x2048 .f32) (ix4 b hd n l)
      = (∑ c : Fin 16, x (ix4 b hd c n) * y (ix4 b hd c l)) * w (ix4 0 hd 0 0) := by
  pointwise

/-- The difference of the entries 511 and 512 of a row, times a constant. -/
theorem diff_at (t : FVec Ideal S2x4x2048x513 .f32) (b : Fin 2) (hd : Fin 4) (n : Fin 2048) :
    (mulf (subf (shapeCast S2x4x2048 (extractStridedSlice S2x4x2048x1 ![0, 0, 0, 511] t slices_S2x4x2048x513_S2x4x2048x1_0_0_0_511) shapeCasts_S2x4x2048x1_S2x4x2048)
        (shapeCast S2x4x2048 (extractStridedSlice S2x4x2048x1 ![0, 0, 0, 512] t slices_S2x4x2048x513_S2x4x2048x1_0_0_0_512) shapeCasts_S2x4x2048x1_S2x4x2048))
      (broadcastInDim S2x4x2048 ![] bcast_S_S2x4x2048 (constant S_ .f32 0x4A800000#32)) : FVec Ideal S2x4x2048 .f32) (ix3 b hd n)
      = (t (ix4 b hd n ⟨511, by omega⟩) - t (ix4 b hd n ⟨512, by omega⟩)) * Block.cS := by
  pointwise

/-- The greatest entry of a row. -/
theorem mx_at (x : FVec Ideal S2x4x2048x2048 .f32) (b : Fin 2) (hd : Fin 4) (n : Fin 2048) :
    (Host.reduce FloatOps.maximumf x (constant S_ .f32 0xFF800000#32) reducesTo_S2x4x2048x2048_S2x4x2048_d3 h_S_ : FVec Ideal S2x4x2048 .f32) (ix3 b hd n)
      = Block.mx fun m => x (ix4 b hd n m) := by
  unfold Block.mx
  pointwise
  rw [Block.negInf_val]

/-- A difference of two arrays. -/
theorem subf_at (x y : FVec Ideal S2x4x2048 .f32) (b : Fin 2) (hd : Fin 4) (n : Fin 2048) :
    (subf x y : FVec Ideal S2x4x2048 .f32) (ix3 b hd n) = x (ix3 b hd n) - y (ix3 b hd n) := by
  pointwise

/-- The least entry of a row. -/
theorem mn_at (x : FVec Ideal S2x4x2048x2048 .f32) (b : Fin 2) (hd : Fin 4) (n : Fin 2048) :
    (Host.reduce FloatOps.minimumf x (constant S_ .f32 0x7F800000#32) reducesTo_S2x4x2048x2048_S2x4x2048_d3 h_S_ : FVec Ideal S2x4x2048 .f32) (ix3 b hd n)
      = Block.mn fun m => x (ix4 b hd n m) := by
  unfold Block.mn
  pointwise
  rw [Block.posInf_val]

/-- The float constant one. -/
theorem one_val : Ideal.ofBits .f32 0x3F800000#32 = (1 : EReal) := by
  have e : (1 : EReal) = ((1 : ℝ) : EReal) := rfl
  rw [e]
  simp [Ideal.ofBits, Ideal.ieee, -EReal.coe_mul]
  norm_num

/-- The float constant zero. -/
theorem zero_val : Ideal.ofBits .f32 0x00000000#32 = (0 : EReal) := by
  simp [Ideal.ofBits, Ideal.ieee]

/-- Of every row of every pixel: 0 where the first array exceeds the second one, 1 elsewhere. -/
def miss (y u : FVec Ideal S2x4x2048 .f32) : FVec Ideal S2x4x32x32x2 .f32 :=
  fn_where (shapeCast S2x4x32x32x2 (cmpf .ogt y u) shapeCasts_S2x4x2048_S2x4x32x32x2) (constant S_ .f32 0x00000000#32) (constant S_ .f32 0x3F800000#32)

/-- An entry of `miss`. -/
theorem miss_at (y u : FVec Ideal S2x4x2048 .f32) (b : Fin 2) (hd : Fin 4) (h v : Fin 32) (t : Fin 2) :
    miss y u (ix5 b hd h v t) = if u (ix3 b hd (Block.posOf h v t)) < y (ix3 b hd (Block.posOf h v t)) then (0 : EReal) else 1 := by
  have e1 : Ideal.ofBits FTy.f32 1065353216#32 = (1 : EReal) := one_val
  have e0 : Ideal.ofBits FTy.f32 0#32 = (0 : EReal) := zero_val
  unfold miss fn_where
  pointwise
  have e : Block.posOf h v t = ⟨h * 64 + v * 2 + t, by omega⟩ := Fin.ext (by show (h.1 * 32 + v.1) * 2 + t.1 = h.1 * 64 + v.1 * 2 + t.1; omega)
  rw [e]

/-- No entry of `miss` is negative. -/
theorem miss_nonneg (y u : FVec Ideal S2x4x2048 .f32) (i : S2x4x32x32x2.Idx) : (0 : EReal) ≤ miss y u i := by
  have e : i = ix5 (i 0 : Fin 2) (i 1 : Fin 4) (i 2 : Fin 32) (i 3 : Fin 32) (i 4 : Fin 2) := by
    funext k
    match k with
    | ⟨0, _⟩ => rfl
    | ⟨1, _⟩ => rfl
    | ⟨2, _⟩ => rfl
    | ⟨3, _⟩ => rfl
    | ⟨4, _⟩ => rfl
  rw [e]
  refine le_of_le_of_eq ?_ (miss_at y u _ _ _ _ _).symm
  split
  · exact le_refl _
  · exact zero_le_one

/-- The number of rows of a pixel at which the first array does not exceed the second one. -/
def count (y u : FVec Ideal S2x4x2048 .f32) : FVec Ideal S2x32x32 .f32 :=
  Host.reduceAdd (miss y u) (constant S_ .f32 0x00000000#32) reducesTo_S2x4x32x32x2_S2x32x32_d1_4 h_S_

/-- The count as a sum over the rows of the pixel. -/
theorem count_eq (y u : FVec Ideal S2x4x2048 .f32) (j : S2x32x32.Idx) :
    count y u j = ∑ i ∈ Finset.univ.filter (fun i => reducesTo_S2x4x32x32x2_S2x32x32_d1_4.drop i = j), miss y u i := by
  have e : count y u j = Ideal.ofBits .f32 0x00000000#32 + ∑ i ∈ Finset.univ.filter (fun i => reducesTo_S2x4x32x32x2_S2x32x32_d1_4.drop i = j), miss y u i := rfl
  have z : Ideal.ofBits FTy.f32 0x00000000#32 = (0 : EReal) := zero_val
  rw [e, z, zero_add]

/-- The count is not negative. -/
theorem count_nonneg (y u : FVec Ideal S2x4x2048 .f32) (j : S2x32x32.Idx) : 0 ≤ count y u j := by
  rw [count_eq]
  exact Finset.sum_nonneg fun i _ => miss_nonneg y u i

/-- Where the count is at most 0, the first array exceeds the second one at every row of the pixel. -/
theorem count_zero (y u : FVec Ideal S2x4x2048 .f32) (b : Fin 2) (h v : Fin 32) (H : count y u (ix3 b h v) ≤ 0) (hd : Fin 4) (t : Fin 2) :
    u (ix3 b hd (Block.posOf h v t)) < y (ix3 b hd (Block.posOf h v t)) := by
  rw [count_eq] at H
  have m : ix5 b hd h v t ∈ Finset.univ.filter (fun i => reducesTo_S2x4x32x32x2_S2x32x32_d1_4.drop i = ix3 b h v) := by
    refine Finset.mem_filter.mpr ⟨Finset.mem_univ _, ?_⟩
    funext k
    match k with
    | ⟨0, _⟩ => rfl
    | ⟨1, _⟩ => rfl
    | ⟨2, _⟩ => rfl
  have l := (Finset.single_le_sum (f := fun i => (miss y u i : EReal)) (fun i _ => miss_nonneg y u i) m).trans H
  by_contra n
  have l' : (1 : EReal) ≤ 0 := by
    have := miss_at y u b hd h v t
    rw [if_neg n] at this
    exact this ▸ l
  exact absurd l' (not_le.mpr zero_lt_one)

/-- An image with a border of zeros. -/
theorem pad_at (q : FVec Ideal S2x32x32 .f32) (b : Fin 2) (i j : Fin 34) :
    (fn_pad_0 q (constantI S_ 32 0#32) : FVec Ideal S2x34x34 .f32) (ix3 b i j) = Block.pad2 (fun h v => q (ix3 b h v)) i j := by
  unfold fn_pad_0
  pointwise
  unfold Block.pad2
  have e : (FloatOps.sitofp .f32 0#32 : Ideal .f32) = (0 : EReal) := show ((((0#32 : BitVec 32).toInt : ℝ)) : EReal) = 0 by simp
  by_cases H : (1 ≤ i.val ∧ i.val - 1 < 32) ∧ 1 ≤ j.val ∧ j.val - 1 < 32
  · refine Eq.trans ?_ (dif_pos H).symm
    exact dif_pos H
  · refine Eq.trans ?_ (dif_neg H).symm
    exact (dif_neg H).trans e

/-- The mask is set where the nine entries around a pixel sum to at most 0. -/
theorem near_at (p : FVec Ideal S2x34x34 .f32) (g : Fin 2 → Fin 32 → Fin 32 → EReal) (hp : ∀ b (i j : Fin 34), p (ix3 b i j) = Block.pad2 (g b) i j)
    (b : Fin 2) (c : Fin 128) (h v : Fin 32) :
    (fn_part7 p (addf (addf (addf (addf (extractStridedSlice S2x32x32 ![0, 0, 0] p slices_S2x34x34_S2x32x32_0_0_0) (extractStridedSlice S2x32x32 ![0, 0, 1] p slices_S2x34x34_S2x32x32_0_0_1))
          (extractStridedSlice S2x32x32 ![0, 0, 2] p slices_S2x34x34_S2x32x32_0_0_2)) (extractStridedSlice S2x32x32 ![0, 1, 0] p slices_S2x34x34_S2x32x32_0_1_0))
          (extractStridedSlice S2x32x32 ![0, 1, 1] p slices_S2x34x34_S2x32x32_0_1_1)) (extractStridedSlice S2x32x32 ![0, 1, 2] p slices_S2x34x34_S2x32x32_0_1_2)) (ix4 b c h v)
      = Ideal.cmp .ole (Block.sum9 (g b) h v) 0 := by
  unfold fn_part7 Block.sum9
  pointwise
  simp only [hp]
  simp only [Nat.add_comm 1, Nat.add_comm 2]

/-- Part 4 read: the queries divided by their norms, the keys, and the keys' norms. -/
theorem part4_at (a : Block.Args) (x y z : FVec Ideal S128x6x32x32 .f32)
    (hq : ∀ b o d h v, (transpose S2x6x64x32x32 [0, 2, 1, 3, 4] (shapeCast S2x64x6x32x32 (addf x (mulf y z)) shapeCasts_S128x6x32x32_S2x64x6x32x32)
          transposes_S2x64x6x32x32_S2x6x64x32x32_0_2_1_3_4 : FVec Ideal S2x6x64x32x32 .f32) (ix5 b o d h v) = Block.qkv a b o d h v) :
    ∃ (k q : FVec Ideal S2x4x16x2048 .f32) (kn : FVec Ideal S2x4x16x1 .f32),
      fn_part4 a.tm x y z = fn_part5 a.tm k q kn (constant S_ .f32 0x2B8CBCCC#32)
      ∧ (∀ b hd c n, q (ix4 b hd c n) = Block.nrm a 0 b hd c n)
      ∧ (∀ b hd c n, k (ix4 b hd c n) = Block.zz a 1 b hd c n)
      ∧ (∀ b hd c, kn (ix4 b hd c 0) = Ideal.sqrt (∑ l, Block.zz a 1 b hd c l * Block.zz a 1 b hd c l)) := by
  unfold fn_part4
  refine ⟨_, _, _, rfl, ?_, ?_, ?_⟩
  · intro b hd c n
    refine (quot_at _ _ b hd c n).trans ?_
    rw [norm_at]
    simp only [heads0_at a _ hq]
    rfl
  · exact heads1_at a _ hq
  · intro b hd c
    refine (norm_at _ b hd c).trans ?_
    simp only [heads1_at a _ hq]

/-- The second part of the mask: the scores of every row, and the scaled distance of its 512th and 513th greatest score. -/
theorem part5_at (a : Block.Args) (k q : FVec Ideal S2x4x16x2048 .f32) (kn : FVec Ideal S2x4x16x1 .f32)
    (hq : ∀ b hd c n, q (ix4 b hd c n) = Block.nrm a 0 b hd c n)
    (hk : ∀ b hd c n, k (ix4 b hd c n) = Block.zz a 1 b hd c n)
    (hn : ∀ b hd c, kn (ix4 b hd c 0) = Ideal.sqrt (∑ l, Block.zz a 1 b hd c l * Block.zz a 1 b hd c l)) :
    ∃ (x : FVec Ideal S2x4x2048x2048 .f32) (y : FVec Ideal S2x4x2048 .f32),
      fn_part5 a.tm k q kn (constant S_ .f32 0x2B8CBCCC#32) = fn_part6 x y (constant S_ .f32 0xFF800000#32)
      ∧ (∀ b hd n m, x (ix4 b hd n m) = Block.scR a b hd n m)
      ∧ (∀ b hd n, y (ix3 b hd n) = (Block.scR a b hd n (Block.top (Block.scR a b hd n) ⟨511, by omega⟩)
          - Block.scR a b hd n (Block.top (Block.scR a b hd n) ⟨512, by omega⟩)) * Block.cS) := by
  have hs : ∀ b hd n m, (mulf (Host.reduceAdd (mulf (broadcastInDim S2x4x16x2048x2048 ![0, 1, 2, 3, 4] bcast_S2x4x16x2048x1_S2x4x16x2048x2048_0_1_2_3_4 (broadcastInDim S2x4x16x2048x1 ![0, 1, 2, 3] bcast_S2x4x16x2048_S2x4x16x2048x1_0_1_2_3 q))
          (broadcastInDim S2x4x16x2048x2048 ![0, 1, 2, 3, 4] bcast_S2x4x16x1x2048_S2x4x16x2048x2048_0_1_2_3_4 (broadcastInDim S2x4x16x1x2048 ![0, 1, 2, 4] bcast_S2x4x16x2048_S2x4x16x1x2048_0_1_2_4
            (Host.divf k (broadcastInDim S2x4x16x2048 ![0, 1, 2, 3] bcast_S2x4x16x1_S2x4x16x2048_0_1_2_3 (maximumf kn (broadcastInDim S2x4x16x1 ![] bcast_S_S2x4x16x1 (constant S_ .f32 0x2B8CBCCC#32))))))))
        (constant S_ .f32 0x00000000#32) reducesTo_S2x4x16x2048x2048_S2x4x2048x2048_d2 h_S_)
      (broadcastInDim S2x4x2048x2048 ![0, 1, 2, 3] bcast_S1x4x1x1_S2x4x2048x2048_0_1_2_3 a.tm) : FVec Ideal S2x4x2048x2048 .f32) (ix4 b hd n m) = Block.scR a b hd n m := by
    intro b hd n m
    refine (scores_at _ _ _ b hd n m).trans ?_
    unfold Block.scR
    refine congrArg (· * _) (Finset.sum_congr (M := EReal) rfl fun c _ => ?_)
    rw [hq, quot_at, hk, hn]
    rfl
  unfold fn_part5
  refine ⟨_, _, rfl, hs, ?_⟩
  intro b hd n
  refine (diff_at _ b hd n).trans ?_
  beta_reduce
  rw [Block.topK_val (by omega), Block.topK_val (by omega)]
  simp only [hs]

/-- The last part of the mask: where it is set, the rows of every pixel around have the distance of the array `y` above
their range. -/
theorem part6_at (x : FVec Ideal S2x4x2048x2048 .f32) (y : FVec Ideal S2x4x2048 .f32) (b : Fin 2) (c : Fin 128) (h v : Fin 32)
    (H : fn_part6 x y (constant S_ .f32 0xFF800000#32) (ix4 b c h v) = 1#1) (h' v' : Fin 32) (nr : Block.Near h v h' v') (hd : Fin 4) (t : Fin 2) :
    Block.mx (fun m => x (ix4 b hd (Block.posOf h' v' t) m)) - Block.mn (fun m => x (ix4 b hd (Block.posOf h' v' t) m))
      < y (ix3 b hd (Block.posOf h' v' t)) := by
  have e := near_at _ (fun b h v => count y (subf (Host.reduce FloatOps.maximumf x (constant S_ .f32 0xFF800000#32) reducesTo_S2x4x2048x2048_S2x4x2048_d3 h_S_)
      (Host.reduce FloatOps.minimumf x (constant S_ .f32 0x7F800000#32) reducesTo_S2x4x2048x2048_S2x4x2048_d3 h_S_)) (ix3 b h v)) (fun b => pad_at _ b) b c h v
  have H' := e.symm.trans H
  have s : Block.sum9 (fun h v => count y (subf (Host.reduce FloatOps.maximumf x (constant S_ .f32 0xFF800000#32) reducesTo_S2x4x2048x2048_S2x4x2048_d3 h_S_)
      (Host.reduce FloatOps.minimumf x (constant S_ .f32 0x7F800000#32) reducesTo_S2x4x2048x2048_S2x4x2048_d3 h_S_)) (ix3 b h v)) h v ≤ 0 := by
    by_contra n
    unfold Ideal.cmp at H'
    simp [n] at H'
  obtain ⟨i, j, hh, hv⟩ := nr
  have z := Block.sum9_zero _ (fun h v => count_nonneg _ _ _) h v s i j
  rw [Block.pad2_near _ h v i j h' v' hh hv] at z
  have l := count_zero _ _ b h' v' z hd t
  refine lt_of_eq_of_lt ?_ l
  refine Eq.trans ?_ (subf_at _ _ b hd _).symm
  rw [mx_at, mn_at]

/-- Where the mask is set, every row of every pixel around is separated. -/
theorem mask_gap (a : Block.Args) (x y z : FVec Ideal S128x6x32x32 .f32)
    (hq : ∀ b o d h v, (transpose S2x6x64x32x32 [0, 2, 1, 3, 4] (shapeCast S2x64x6x32x32 (addf x (mulf y z)) shapeCasts_S128x6x32x32_S2x64x6x32x32)
          transposes_S2x64x6x32x32_S2x6x64x32x32_0_2_1_3_4 : FVec Ideal S2x6x64x32x32 .f32) (ix5 b o d h v) = Block.qkv a b o d h v)
    (b : Fin 2) (c : Fin 128) (h v : Fin 32) (H : fn_part4 a.tm x y z (ix4 b c h v) = 1#1)
    (h' v' : Fin 32) (nr : Block.Near h v h' v') (hd : Fin 4) (t : Fin 2) : Block.Gap (Block.scR a b hd (Block.posOf h' v' t)) := by
  obtain ⟨k, q, kn, e, e1, e2, e3⟩ := part4_at a x y z hq
  obtain ⟨s, d, e', e4, e5⟩ := part5_at a k q kn e1 e2 e3
  rw [e, e'] at H
  have l := part6_at s d b c h v H h' v' nr hd t
  rw [e5] at l
  simp only [e4] at l
  exact l

end Cert.On_separated.Val

end

end
-- ==== Proof.RefB.lean ====
/-
  The reference program's values from the scores to the first residual sum.
-/
module

public import proofs.«01_k».proof.Proof.TopK
public import proofs.«01_k».proof.Proof.RefA

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value

attribute [local irreducible] Block.top

variable (V : Valuation τ sig (Elt Ideal))

/-- A table of positions in a row as positions in the array of all rows. -/
theorem flat_at (t : IVec S2x4x2048x512 32) (b : Fin 2) (hd : Fin 4) (n : Fin 2048) (j : Fin 512) :
    (shapeCast S8388608 (addi t (broadcastInDim S2x4x2048x512 ![0, 1, 2, 3] bcast_S2x4x2048x1_S2x4x2048x512_0_1_2_3 (shapeCast _ (muli (iotaInDim S16384 32 0) (broadcastInDim S16384 ![] bcast_S_S16384 (constantI S_ 32 2048#32))) shapeCasts_S16384_S2x4x2048x1))) shapeCasts_S2x4x2048x512_S8388608 : IVec S8388608 32) (ix1 ⟨((b * 4 + hd) * 2048 + n) * 512 + j, by omega⟩)
      = t (ix4 b hd n j) + BitVec.ofNat 32 (b * 8192 + hd * 2048 + n) * 2048#32 := by
  pointwise
  rfl

/-- The index words, a negative one moved up by the array's length. -/
theorem wrap_at (t : IVec S8388608 32) (k : Fin 8388608) :
    (broadcastInDim S8388608x1 ![0] bcast_S8388608_S8388608x1_0 (select (cmpi .slt t (broadcastInDim S8388608 ![] bcast_S_S8388608 (constantI S_ 32 0#32))) (addi t (broadcastInDim S8388608 ![] bcast_S_S8388608 (constantI S_ 32 33554432#32))) t) : IVec S8388608x1 32) (ix2 k 0)
      = Scalar.select (IntOp.cmpi .slt (t (ix1 k)) 0#32) (t (ix1 k) + 33554432#32) (t (ix1 k)) := by
  pointwise
  rfl

/-- The scores where the mask is positive, the least value elsewhere. -/
theorem sel_at (s : FVec Ideal S33554432 .f32) (x : FVec Ideal S2x4x2048x2048 .f32) (b : Fin 2) (hd : Fin 4) (n m : Fin 2048) :
    (select (cmpf .ogt (shapeCast _ s shapeCasts_S33554432_S2x4x2048x2048 : FVec Ideal S2x4x2048x2048 .f32) (broadcastInDim S2x4x2048x2048 ![] bcast_S_S2x4x2048x2048 (constant S_ .f32 0x00000000#32))) x (broadcastInDim S2x4x2048x2048 ![] bcast_S_S2x4x2048x2048 (id (constant S_ .f32 0xFF800000#32))) : FVec Ideal S2x4x2048x2048 .f32) (ix4 b hd n m)
      = if 0 < s (ix1 ⟨b * 16777216 + hd * 4194304 + n * 2048 + m, by omega⟩) then x (ix4 b hd n m) else ⊥ := by
  rw [← Block.negInf_val]
  pointwise
  rfl

/-- The greatest entry of a row. -/
theorem mx_at (x : FVec Ideal S2x4x2048x2048 .f32) (b : Fin 2) (hd : Fin 4) (n : Fin 2048) :
    (Host.reduce FloatOps.maximumf x (constant S_ .f32 0xFF800000#32) reducesTo_S2x4x2048x2048_S2x4x2048_d3 h_S_ : FVec Ideal S2x4x2048 .f32) (ix3 b hd n)
      = Block.mx fun m => x (ix4 b hd n m) := by
  unfold Block.mx
  pointwise
  rw [Block.negInf_val]

/-- The exponentials, a number per row subtracted. -/
theorem exp_at (x : FVec Ideal S2x4x2048x2048 .f32) (y : FVec Ideal S2x4x2048 .f32) (b : Fin 2) (hd : Fin 4) (n m : Fin 2048) :
    (Host.exp (subf x (broadcastInDim S2x4x2048x2048 ![0, 1, 2, 3] bcast_S2x4x2048x1_S2x4x2048x2048_0_1_2_3 (broadcastInDim S2x4x2048x1 ![0, 1, 2] bcast_S2x4x2048_S2x4x2048x1_0_1_2 (maximumf (broadcastInDim S2x4x2048 ![] bcast_S_S2x4x2048 (constant S_ .f32 0xFF800000#32)) y)))) : FVec Ideal S2x4x2048x2048 .f32) (ix4 b hd n m)
      = Ideal.exp (x (ix4 b hd n m) - max (Ideal.ofBits .f32 0xFF800000#32) (y (ix3 b hd n))) := by
  pointwise

/-- A row divided by its sum. -/
theorem soft_at (e : FVec Ideal S2x4x2048x2048 .f32) (b : Fin 2) (hd : Fin 4) (n m : Fin 2048) :
    (Host.divf e (broadcastInDim S2x4x2048x2048 ![0, 1, 2, 3] bcast_S2x4x2048x1_S2x4x2048x2048_0_1_2_3 (broadcastInDim S2x4x2048x1 ![0, 1, 2] bcast_S2x4x2048_S2x4x2048x1_0_1_2 (Host.reduceAdd e (constant S_ .f32 0x00000000#32) reducesTo_S2x4x2048x2048_S2x4x2048_d3 h_S_))) : FVec Ideal S2x4x2048x2048 .f32) (ix4 b hd n m)
      = Ideal.div (e (ix4 b hd n m)) (∑ l : Fin 2048, e (ix4 b hd n l)) := by
  pointwise

/-- The values weighted by the rows. -/
theorem att_at (v : FVec Ideal S2x4x16x2048 .f32) (p : FVec Ideal S2x4x2048x2048 .f32) (b : Fin 2) (hd : Fin 4) (c : Fin 16) (n : Fin 2048) :
    (Host.dotGeneral dot_S2x4x16x2048_S2x4x2048x2048_S2x4x16x2048_3_3_2_2_01_01 none v p : FVec Ideal S2x4x16x2048 .f32) (ix4 b hd c n)
      = ∑ m : Fin 2048, v (ix4 b hd c m) * p (ix4 b hd n m) := by
  pointwise

/-- The values. -/
theorem vals_at (b : Fin 2) (hd : Fin 4) (c : Fin 16) (n : Fin 2048) :
    (shapeCast S2x4x16x2048 (transpose S2x4x16x32x32x2 [0, 2, 3, 4, 5, 1] (shapeCast _ (extractStridedSlice S2x2x64x32x32 ![0, 4, 0, 0, 0] (res_main_v93 V) slices_S2x6x64x32x32_S2x2x64x32x32_0_4_0_0_0) shapeCasts_S2x2x64x32x32_S2x2x4x16x32x32) transposes_S2x2x4x16x32x32_S2x4x16x32x32x2_0_2_3_4_5_1) shapeCasts_S2x4x16x32x32x2_S2x4x16x2048 : FVec Ideal S2x4x16x2048 .f32) (ix4 b hd c n)
      = Block.zz (argsV V) 2 b hd c n := by
  unfold Block.zz
  rw [← r93]
  pointwise
  rfl

/-- The attention's projection added to the input. -/
theorem res_at (x : FVec Ideal S2x128x32x32 .f32) (y : FVec Ideal S2x4x16x2048 .f32) (w : FVec Ideal S128x128 .f32) (b : Fin 2) (c : Fin 128) (h v : Fin 32) :
    (addf x (transpose S2x128x32x32 [0, 3, 1, 2] (Host.dotGeneral dot_S2x128x32x32_S128x128_S2x32x32x128_1_1_023_0_n_n none (shapeCast _ (transpose S2x2x4x16x32x32 [0, 5, 1, 2, 3, 4] (shapeCast _ y shapeCasts_S2x4x16x2048_S2x4x16x32x32x2) transposes_S2x4x16x32x32x2_S2x2x4x16x32x32_0_5_1_2_3_4) shapeCasts_S2x2x4x16x32x32_S2x128x32x32) w) transposes_S2x32x32x128_S2x128x32x32_0_3_1_2) : FVec Ideal S2x128x32x32 .f32) (ix4 b c h v)
      = x (ix4 b c h v) + ∑ k : Fin 128, y (ix4 b ⟨k / 16 % 4, by omega⟩ ⟨k % 16, by omega⟩ ⟨h * 64 + v * 2 + k / 64, by omega⟩) * w (ix2 c k) := by
  pointwise

/-- The float constant one. -/
theorem one_val : Ideal.ofBits .f32 0x3F800000#32 = (1 : EReal) := by
  have e : (1 : EReal) = ((1 : ℝ) : EReal) := rfl
  rw [e]
  simp [Ideal.ofBits, Ideal.ieee, -EReal.coe_mul]
  norm_num

/-- An array of zeros has no positive entry. -/
theorem zero_not_pos (i : S33554432.Idx) :
    ¬ (0 : EReal) < (broadcastInDim S33554432 ![] bcast_S_S33554432 (constant (F := Ideal) S_ .f32 0x00000000#32) : FVec Ideal S33554432 .f32) i := by
  have e : (broadcastInDim S33554432 ![] bcast_S_S33554432 (constant (F := Ideal) S_ .f32 0x00000000#32) : FVec Ideal S33554432 .f32) i
    = Ideal.ofBits .f32 0x00000000#32 := rfl
  rw [e]
  simp [Ideal.ofBits, Ideal.ieee]

/-- The positions of the 512 greatest scores of every row, in the array of all rows. -/
theorem r125 (b : Fin 2) (hd : Fin 4) (n : Fin 2048) (j : Fin 512) :
    (res_main_v125 V : IVec S8388608 32) (ix1 ⟨((b * 4 + hd) * 2048 + n) * 512 + j, by omega⟩)
      = BitVec.ofNat 32 (b * 16777216 + hd * 4194304 + n * 2048 + (Block.top (Block.scR (argsV V) b hd n) ⟨j, by omega⟩).1) := by
  unfold res_main_v125
  refine (flat_at _ b hd n j).trans ?_
  rw [Block.topK_idx (by omega)]
  simp only [r118]
  rw [← BitVec.ofNat_mul, ← BitVec.ofNat_add]
  refine congrArg (BitVec.ofNat 32) ?_
  have H : ∀ t : ℕ, t + (b.1 * 8192 + hd.1 * 2048 + n.1) * 2048 = b.1 * 16777216 + hd.1 * 4194304 + n.1 * 2048 + t := fun t => by omega
  exact H _

/-- The index words of a row, read as signed integers. -/
theorem words (b : Fin 2) (hd : Fin 4) (n : Fin 2048) (j : Fin 512) :
    ((broadcastInDim S8388608x1 ![0] bcast_S8388608_S8388608x1_0 (select (cmpi .slt (res_main_v125 V) (broadcastInDim S8388608 ![] bcast_S_S8388608 (constantI S_ 32 0#32))) (addi (res_main_v125 V) (broadcastInDim S8388608 ![] bcast_S_S8388608 (constantI S_ 32 33554432#32))) (res_main_v125 V)) : IVec S8388608x1 32) (ix2 ⟨((b * 4 + hd) * 2048 + n) * 512 + j, by omega⟩ 0)).toInt
      = ((b.1 * 16777216 + hd.1 * 4194304 + n.1 * 2048 + (Block.top (Block.scR (argsV V) b hd n) ⟨j, by omega⟩).1 : ℕ) : ℤ) := by
  rw [wrap_at, r125]
  have ht := (Block.top (Block.scR (argsV V) b hd n) ⟨j, by omega⟩).2
  have H : ∀ t : ℕ, t < 2048 → (Scalar.select (IntOp.cmpi .slt (BitVec.ofNat 32 (b.1 * 16777216 + hd.1 * 4194304 + n.1 * 2048 + t)) 0#32)
      (BitVec.ofNat 32 (b.1 * 16777216 + hd.1 * 4194304 + n.1 * 2048 + t) + 33554432#32)
      (BitVec.ofNat 32 (b.1 * 16777216 + hd.1 * 4194304 + n.1 * 2048 + t))).toInt
      = ((b.1 * 16777216 + hd.1 * 4194304 + n.1 * 2048 + t : ℕ) : ℤ) := by
    intro t ht
    rw [Routing.wrap_of_lt _ _ (by rw [BitVec.toNat_ofNat]; omega)]
    exact StableHlo.Predicate.toInt_ofNat_small _ (by omega)
  exact H _ ht

/-- An entry of the mask is set exactly where its score is kept. -/
theorem kept_iff (f : Fin 2 → Fin 4 → Fin 2048 → Block.Row) (idx : IVec S8388608x1 32)
    (hrow : ∀ (b : Fin 2) (hd : Fin 4) (n : Fin 2048) (j : Fin 512), (idx (ix2 ⟨((b * 4 + hd) * 2048 + n) * 512 + j, by omega⟩ 0)).toInt
      = ((b.1 * 16777216 + hd.1 * 4194304 + n.1 * 2048 + (Block.top (f b hd n) ⟨j, by omega⟩).1 : ℕ) : ℤ))
    (b : Fin 2) (hd : Fin 4) (n m : Fin 2048) :
    (∃ k : Fin 8388608, (idx (ix2 k 0)).toInt = ((b.1 * 16777216 + hd.1 * 4194304 + n.1 * 2048 + m.1 : ℕ) : ℤ)) ↔ Block.Kept (f b hd n) m := by
  constructor
  · rintro ⟨k, hk⟩
    have hk2 := k.2
    obtain ⟨b', hb'⟩ : ∃ b' : Fin 2, b'.1 = k.1 / 4194304 := ⟨⟨k.1 / 4194304, by omega⟩, rfl⟩
    obtain ⟨hd', hh'⟩ : ∃ hd' : Fin 4, hd'.1 = k.1 / 1048576 % 4 := ⟨⟨k.1 / 1048576 % 4, by omega⟩, rfl⟩
    obtain ⟨n', hn'⟩ : ∃ n' : Fin 2048, n'.1 = k.1 / 512 % 2048 := ⟨⟨k.1 / 512 % 2048, by omega⟩, rfl⟩
    obtain ⟨j, hj⟩ : ∃ j : Fin 512, j.1 = k.1 % 512 := ⟨⟨k.1 % 512, by omega⟩, rfl⟩
    have e : k = ⟨((b' * 4 + hd') * 2048 + n') * 512 + j, by omega⟩ := Fin.ext (by dsimp only; omega)
    rw [e, hrow] at hk
    have hk := Int.ofNat.inj hk
    have ht := (Block.top (f b' hd' n') ⟨j, by omega⟩).2
    have hm := m.2
    have key : ∀ t : ℕ, t < 2048 → b'.1 * 16777216 + hd'.1 * 4194304 + n'.1 * 2048 + t = b.1 * 16777216 + hd.1 * 4194304 + n.1 * 2048 + m.1 →
        b'.1 = b.1 ∧ hd'.1 = hd.1 ∧ n'.1 = n.1 ∧ t = m.1 := by
      intro t ht h
      omega
    obtain ⟨h1, h2, h3, h4⟩ := key _ ht hk
    obtain rfl := Fin.ext h1
    obtain rfl := Fin.ext h2
    obtain rfl := Fin.ext h3
    exact ⟨⟨j, by omega⟩, j.2, Fin.ext h4⟩
  · rintro ⟨j, hj, rfl⟩
    exact ⟨_, hrow b hd n ⟨j, hj⟩⟩

/-- The scores kept, the others replaced by the least value. -/
theorem r138 (b : Fin 2) (hd : Fin 4) (n m : Fin 2048) :
    (res_main_v138 V : FVec Ideal S2x4x2048x2048 .f32) (ix4 b hd n m) = Block.msk (Block.scR (argsV V) b hd n) m := by
  unfold res_main_v138
  refine (sel_at _ _ b hd n m).trans ?_
  rw [r118]
  unfold Block.msk
  have hiff := kept_iff (fun b hd n => Block.scR (argsV V) b hd n) _ (fun b hd n j => words V b hd n j) b hd n m
  have hs := Block.scatter_const (α := EReal) scatter_S33554432_S8388608x1_S8388608_n_0_0_1 rfl rfl rfl rfl
    (broadcastInDim S33554432 ![] bcast_S_S33554432 (constant (F := Ideal) S_ .f32 0x00000000#32))
    (broadcastInDim S8388608x1 ![0] bcast_S8388608_S8388608x1_0 (select (cmpi .slt (res_main_v125 V) (broadcastInDim S8388608 ![] bcast_S_S8388608 (constantI S_ 32 0#32))) (addi (res_main_v125 V) (broadcastInDim S8388608 ![] bcast_S_S8388608 (constantI S_ 32 33554432#32))) (res_main_v125 V)))
    (Ideal.ofBits .f32 0x3F800000#32) ⟨b * 16777216 + hd * 4194304 + n * 2048 + m, by omega⟩
  have hu : (broadcastInDim S8388608 ![] bcast_S_S8388608 (constant (F := Ideal) S_ .f32 0x3F800000#32) : FVec Ideal S8388608 .f32)
    = fun _ => Ideal.ofBits .f32 0x3F800000#32 := rfl
  by_cases H : Block.Kept (Block.scR (argsV V) b hd n) m
  · rw [if_pos H, if_pos]
    rw [hu]
    refine lt_of_lt_of_eq ?_ (hs.trans (if_pos (hiff.2 H))).symm
    rw [one_val]
    exact zero_lt_one
  · rw [if_neg H, if_neg]
    rw [hu]
    intro h
    exact zero_not_pos _ (lt_of_lt_of_eq h (hs.trans (if_neg fun h => H (hiff.1 h))))

/-- The exponentials. -/
theorem r145 (b : Fin 2) (hd : Fin 4) (n m : Fin 2048) :
    (res_main_v145 V : FVec Ideal S2x4x2048x2048 .f32) (ix4 b hd n m) = Block.eR (Block.scR (argsV V) b hd n) m := by
  unfold res_main_v145
  refine (exp_at _ _ b hd n m).trans ?_
  rw [mx_at, Block.negInf_val]
  simp only [r138]
  rfl

/-- The attention by sorting. -/
def attRef (a : Block.Args) (b : Fin 2) (hd : Fin 4) (c : Fin 16) (n : Fin 2048) : EReal :=
  Block.attR (Block.scR a b hd n) (Block.zz a 2 b hd c)

/-- The first residual sum. -/
theorem r156 (b : Fin 2) (c : Fin 128) (h v : Fin 32) :
    (res_main_v156 V : FVec Ideal S2x128x32x32 .f32) (ix4 b c h v) = Block.res1 (argsV V) (attRef (argsV V)) b h v c := by
  unfold res_main_v156
  refine (res_at _ _ _ b c h v).trans ?_
  unfold Block.res1 Block.chans attRef Block.attR
  refine congrArg ((argsV V).x (ix4 b c h v) + ·) (Finset.sum_congr rfl fun k _ => ?_)
  refine congrArg (· * (argsV V).pw (ix2 c k)) ?_
  rw [att_at]
  have hp : (⟨h * 64 + v * 2 + k / 64, by omega⟩ : Fin 2048) = Block.posOf h v ⟨k / 64, by omega⟩ :=
    Fin.ext (by unfold Block.posOf; dsimp only; omega)
  rw [hp]
  refine Finset.sum_congr rfl fun m _ => ?_
  rw [vals_at, soft_at]
  simp only [r145]

end Cert.ReferenceIdeal.Val

end

end
-- ==== Proof.RefC.lean ====
/-
  The reference program's values from the first residual sum to the result.
-/
module

public import proofs.«01_k».proof.Proof.RefB

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value

variable (V : Valuation τ sig (Elt Ideal))

/-- The second layer norm's means. -/
theorem r160 (b : Fin 2) (h v : Fin 32) :
    (res_main_v160 V : FVec Ideal S2x1x32x32 .f32) (ix4 b 0 h v) = Block.mean (Block.res1 (argsV V) (attRef (argsV V)) b h v) := by
  unfold res_main_v160 Block.mean
  pointwise
  simp only [r156]

/-- The deviations from them. -/
theorem r162 (b : Fin 2) (c : Fin 128) (h v : Fin 32) :
    (res_main_v162 V : FVec Ideal S2x128x32x32 .f32) (ix4 b c h v) = Block.ctr (Block.res1 (argsV V) (attRef (argsV V)) b h v) c := by
  unfold Block.ctr
  rw [← r160, ← r156]
  unfold res_main_v162
  pointwise

/-- A layer norm from its means and deviations. -/
theorem ln_at (x y : FVec Ideal S2x128x32x32 .f32) (u : FVec Ideal S2x1x32x32 .f32) (g o : FVec Ideal S128 .f32) (b : Fin 2) (c : Fin 128) (h v : Fin 32) :
    ((addf (mulf (Host.divf (subf x (broadcastInDim S2x128x32x32 ![0, 1, 2, 3] bcast_S2x1x32x32_S2x128x32x32_0_1_2_3 u)) (broadcastInDim S2x128x32x32 ![0, 1, 2, 3] bcast_S2x1x32x32_S2x128x32x32_0_1_2_3 (Host.sqrt (addf (Host.divf (broadcastInDim S2x1x32x32 ![0, 2, 3] bcast_S2x32x32_S2x1x32x32_0_2_3 (Host.reduceAdd (mulf y y) (constant S_ .f32 0x00000000#32) reducesTo_S2x128x32x32_S2x32x32_d1 h_S_)) (broadcastInDim S2x1x32x32 ![] bcast_S_S2x1x32x32 (constant S_ .f32 0x43000000#32))) (broadcastInDim S2x1x32x32 ![] bcast_S_S2x1x32x32 (constant S_ .f32 0x3727C5AC#32)))))) (broadcastInDim S2x128x32x32 ![0, 1, 2, 3] bcast_S1x128x1x1_S2x128x32x32_0_1_2_3 (broadcastInDim S1x128x1x1 ![1] bcast_S128_S1x128x1x1_1 g))) (broadcastInDim S2x128x32x32 ![0, 1, 2, 3] bcast_S1x128x1x1_S2x128x32x32_0_1_2_3 (broadcastInDim S1x128x1x1 ![1] bcast_S128_S1x128x1x1_1 o))) : FVec Ideal S2x128x32x32 .f32) (ix4 b c h v)
      = Ideal.div (x (ix4 b c h v) - u (ix4 b 0 h v)) (Ideal.sqrt (Ideal.div (∑ k : Fin 128, y (ix4 b k h v) * y (ix4 b k h v)) Block.cN + Block.cE5))
          * g (ix1 c) + o (ix1 c) := by
  pointwise

/-- The feed-forward part's first product. -/
theorem in_at (q : FVec Ideal S2x128x32x32 .f32) (w : FVec Ideal S64x128 .f32) (b : Fin 2) (f : Fin 64) (h v : Fin 32) :
    ((transpose S2x64x32x32 [0, 3, 1, 2] (Host.dotGeneral dot_S2x128x32x32_S64x128_S2x32x32x64_1_1_023_0_n_n none q w) transposes_S2x32x32x64_S2x64x32x32_0_3_1_2) : FVec Ideal S2x64x32x32 .f32) (ix4 b f h v) = ∑ k : Fin 128, q (ix4 b k h v) * w (ix2 f k) := by
  pointwise

/-- An array with a border of zeros. -/
theorem pad_at (q : FVec Ideal S2x64x32x32 .f32) (b : Fin 2) (f : Fin 64) (i j : Fin 34) :
    (pad S2x64x34x34 ![0, 0, 1, 1] ![0, 0, 1, 1] ![0, 0, 0, 0] q (sitofp .f32 (constantI S_ 32 0#32)) pads_S2x64x32x32_S2x64x34x34_000_000_110_110 h_S_ : FVec Ideal S2x64x34x34 .f32) (ix4 b f i j)
      = Block.pad2 (fun h v => q (ix4 b f h v)) i j := by
  pointwise
  unfold Block.pad2
  by_cases H : (1 ≤ i.val ∧ i.val - 1 < 32) ∧ 1 ≤ j.val ∧ j.val - 1 < 32
  · refine Eq.trans ?_ (dif_pos H).symm
    exact dif_pos H
  · refine Eq.trans ?_ (dif_neg H).symm
    exact (dif_neg H).trans zero_float

/-- The feed-forward part's convolution, negative values cut. -/
theorem act_at (p : FVec Ideal S2x64x34x34 .f32) (w : FVec Ideal S64x1x3x3 .f32) (b : Fin 2) (f : Fin 64) (g : Fin 32 → Fin 32 → EReal)
    (hp : ∀ i j : Fin 34, p (ix4 b f i j) = Block.pad2 g i j) (h v : Fin 32) :
    ((maximumf (addf (addf (addf (addf (addf (addf (addf (addf (mulf (extractStridedSlice S2x64x32x32 ![0, 0, 0, 0] p slices_S2x64x34x34_S2x64x32x32_0_0_0_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 0] w slices_S64x1x3x3_S64x1x1x1_0_0_0_0) shapeCasts_S64x1x1x1_S64)))) (mulf (extractStridedSlice S2x64x32x32 ![0, 0, 0, 1] p slices_S2x64x34x34_S2x64x32x32_0_0_0_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 1] w slices_S64x1x3x3_S64x1x1x1_0_0_0_1) shapeCasts_S64x1x1x1_S64))))) (mulf (extractStridedSlice S2x64x32x32 ![0, 0, 0, 2] p slices_S2x64x34x34_S2x64x32x32_0_0_0_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 2] w slices_S64x1x3x3_S64x1x1x1_0_0_0_2) shapeCasts_S64x1x1x1_S64))))) (mulf (extractStridedSlice S2x64x32x32 ![0, 0, 1, 0] p slices_S2x64x34x34_S2x64x32x32_0_0_1_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 0] w slices_S64x1x3x3_S64x1x1x1_0_0_1_0) shapeCasts_S64x1x1x1_S64))))) (mulf (extractStridedSlice S2x64x32x32 ![0, 0, 1, 1] p slices_S2x64x34x34_S2x64x32x32_0_0_1_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 1] w slices_S64x1x3x3_S64x1x1x1_0_0_1_1) shapeCasts_S64x1x1x1_S64))))) (mulf (extractStridedSlice S2x64x32x32 ![0, 0, 1, 2] p slices_S2x64x34x34_S2x64x32x32_0_0_1_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 2] w slices_S64x1x3x3_S64x1x1x1_0_0_1_2) shapeCasts_S64x1x1x1_S64))))) (mulf (extractStridedSlice S2x64x32x32 ![0, 0, 2, 0] p slices_S2x64x34x34_S2x64x32x32_0_0_2_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 0] w slices_S64x1x3x3_S64x1x1x1_0_0_2_0) shapeCasts_S64x1x1x1_S64))))) (mulf (extractStridedSlice S2x64x32x32 ![0, 0, 2, 1] p slices_S2x64x34x34_S2x64x32x32_0_0_2_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 1] w slices_S64x1x3x3_S64x1x1x1_0_0_2_1) shapeCasts_S64x1x1x1_S64))))) (mulf (extractStridedSlice S2x64x32x32 ![0, 0, 2, 2] p slices_S2x64x34x34_S2x64x32x32_0_0_2_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 2] w slices_S64x1x3x3_S64x1x1x1_0_0_2_2) shapeCasts_S64x1x1x1_S64))))) (broadcastInDim S2x64x32x32 ![] bcast_S_S2x64x32x32 (constant S_ .f32 0x00000000#32))) : FVec Ideal S2x64x32x32 .f32) (ix4 b f h v) = max (Block.conv9 g (fun i j => w (ix4 f 0 i j)) h v) 0 := by
  pointwise
  simp only [hp]
  unfold Block.conv9
  simp only [Nat.add_comm 1, Nat.add_comm 2]

/-- The feed-forward part's last product, added to the residual sum. -/
theorem last_at (r : FVec Ideal S2x128x32x32 .f32) (q : FVec Ideal S2x64x32x32 .f32) (w : FVec Ideal S128x64 .f32) (b : Fin 2) (c : Fin 128) (h v : Fin 32) :
    (addf r (transpose S2x128x32x32 [0, 3, 1, 2] (Host.dotGeneral dot_S2x64x32x32_S128x64_S2x32x32x128_1_1_023_0_n_n none q w) transposes_S2x32x32x128_S2x128x32x32_0_3_1_2) : FVec Ideal S2x128x32x32 .f32) (ix4 b c h v) = r (ix4 b c h v) + ∑ f : Fin 64, q (ix4 b f h v) * w (ix2 c f) := by
  pointwise

/-- The feed-forward part's first product with a border of zeros. -/
theorem r183 (b : Fin 2) (f : Fin 64) (i j : Fin 34) :
    (res_main_v183 V : FVec Ideal S2x64x34x34 .f32) (ix4 b f i j) = Block.pad2 (Block.ffn0 (argsV V) (attRef (argsV V)) b f) i j := by
  unfold res_main_v183
  refine (pad_at _ b f i j).trans ?_
  refine congrArg (fun q => Block.pad2 q i j) (funext fun h => funext fun v => ?_)
  refine (in_at _ _ b f h v).trans ?_
  unfold Block.ffn0 Block.lnv Block.vari
  refine Finset.sum_congr (M := EReal) rfl fun k _ => ?_
  rw [ln_at]
  simp only [r162, r160, r156]
  rfl

/-- The operations from the bordered product to the result. -/
def fin (r : FVec Ideal S2x128x32x32 .f32) (p : FVec Ideal S2x64x34x34 .f32) (w : FVec Ideal S64x1x3x3 .f32) (o : FVec Ideal S128x64 .f32) :
    FVec Ideal S2x128x32x32 .f32 :=
  addf r (transpose S2x128x32x32 [0, 3, 1, 2] (Host.dotGeneral dot_S2x64x32x32_S128x64_S2x32x32x128_1_1_023_0_n_n none (maximumf (addf (addf (addf (addf (addf (addf (addf (addf (mulf (extractStridedSlice S2x64x32x32 ![0, 0, 0, 0] p slices_S2x64x34x34_S2x64x32x32_0_0_0_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 0] w slices_S64x1x3x3_S64x1x1x1_0_0_0_0) shapeCasts_S64x1x1x1_S64)))) (mulf (extractStridedSlice S2x64x32x32 ![0, 0, 0, 1] p slices_S2x64x34x34_S2x64x32x32_0_0_0_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 1] w slices_S64x1x3x3_S64x1x1x1_0_0_0_1) shapeCasts_S64x1x1x1_S64))))) (mulf (extractStridedSlice S2x64x32x32 ![0, 0, 0, 2] p slices_S2x64x34x34_S2x64x32x32_0_0_0_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 0, 2] w slices_S64x1x3x3_S64x1x1x1_0_0_0_2) shapeCasts_S64x1x1x1_S64))))) (mulf (extractStridedSlice S2x64x32x32 ![0, 0, 1, 0] p slices_S2x64x34x34_S2x64x32x32_0_0_1_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 0] w slices_S64x1x3x3_S64x1x1x1_0_0_1_0) shapeCasts_S64x1x1x1_S64))))) (mulf (extractStridedSlice S2x64x32x32 ![0, 0, 1, 1] p slices_S2x64x34x34_S2x64x32x32_0_0_1_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 1] w slices_S64x1x3x3_S64x1x1x1_0_0_1_1) shapeCasts_S64x1x1x1_S64))))) (mulf (extractStridedSlice S2x64x32x32 ![0, 0, 1, 2] p slices_S2x64x34x34_S2x64x32x32_0_0_1_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 1, 2] w slices_S64x1x3x3_S64x1x1x1_0_0_1_2) shapeCasts_S64x1x1x1_S64))))) (mulf (extractStridedSlice S2x64x32x32 ![0, 0, 2, 0] p slices_S2x64x34x34_S2x64x32x32_0_0_2_0) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 0] w slices_S64x1x3x3_S64x1x1x1_0_0_2_0) shapeCasts_S64x1x1x1_S64))))) (mulf (extractStridedSlice S2x64x32x32 ![0, 0, 2, 1] p slices_S2x64x34x34_S2x64x32x32_0_0_2_1) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 1] w slices_S64x1x3x3_S64x1x1x1_0_0_2_1) shapeCasts_S64x1x1x1_S64))))) (mulf (extractStridedSlice S2x64x32x32 ![0, 0, 2, 2] p slices_S2x64x34x34_S2x64x32x32_0_0_2_2) (broadcastInDim S2x64x32x32 ![0, 1, 2, 3] bcast_S1x64x1x1_S2x64x32x32_0_1_2_3 (broadcastInDim S1x64x1x1 ![1] bcast_S64_S1x64x1x1_1 (shapeCast _ (extractStridedSlice S64x1x1x1 ![0, 0, 2, 2] w slices_S64x1x3x3_S64x1x1x1_0_0_2_2) shapeCasts_S64x1x1x1_S64))))) (broadcastInDim S2x64x32x32 ![] bcast_S_S2x64x32x32 (constant S_ .f32 0x00000000#32))) o) transposes_S2x32x32x128_S2x128x32x32_0_3_1_2)

/-- The result. -/
theorem r249 (b : Fin 2) (c : Fin 128) (h v : Fin 32) :
    fin (res_main_v156 V) (res_main_v183 V) (V (Proc.devRef .tc main_arg10)) (V (Proc.devRef .tc main_arg11)) (ix4 b c h v) = Block.out (argsV V) (attRef (argsV V)) b c h v := by
  refine (last_at _ _ _ b c h v).trans ?_
  unfold Block.out
  rw [r156]
  refine congrArg (Block.res1 (argsV V) (attRef (argsV V)) b h v c + ·) (Finset.sum_congr rfl fun f _ => ?_)
  rw [act_at _ _ b f _ (fun i j => r183 V b f i j) h v]
  rfl

end Cert.ReferenceIdeal.Val

end

end
-- ==== Proof.Compare.lean ====
/-
  The reference's result where the mask is set, as the kernel's formula.
-/
module

public import proofs.«01_k».proof.Proof.MaskA
public import proofs.«01_k».proof.Proof.MaskB
public import proofs.«01_k».proof.Proof.RefC

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Value
open Idealize.ShloMosaic.StableHlo (launchContents)

variable (V : Valuation τ sig (Elt Ideal))

attribute [local irreducible] Block.top

/-- The mask of the argument arrays. -/
def maskV : IVec S2x128x32x32 1 :=
  Cert.On_separated.fn (F := Ideal) (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11))

/-- Where the mask is set, the rows of scores of every pixel around are separated. -/
theorem mask_ref (b : Fin 2) (c : Fin 128) (h v : Fin 32) (H : maskV V (ix4 b c h v) = 1#1) (h' v' : Fin 32) (nr : Block.Near h v h' v')
    (hd : Fin 4) (t : Fin 2) : Block.Gap (Block.scR (argsV V) b hd (Block.posOf h' v' t)) := by
  obtain ⟨x, y, z, e, q⟩ := mask_head V (V (Proc.devRef .tc main_arg6)) (V (Proc.devRef .tc main_arg7)) (V (Proc.devRef .tc main_arg8))
    (V (Proc.devRef .tc main_arg9)) (V (Proc.devRef .tc main_arg10)) (V (Proc.devRef .tc main_arg11))
  refine Cert.On_separated.Val.mask_gap (argsV V) x y z (fun b o d h v => ?_) b c h v ((congrFun e _).symm.trans H) h' v' nr hd t
  exact (congrFun q _).trans (r93 V b o d h v)

/-- Where the mask is set, the reference's result is the kernel's formula. -/
theorem ref_at (b : Fin 2) (c : Fin 128) (h v : Fin 32) (H : maskV V (ix4 b c h v) = 1#1) :
    fin (res_main_v156 V) (res_main_v183 V) (V (Proc.devRef .tc main_arg10)) (V (Proc.devRef .tc main_arg11)) (ix4 b c h v)
      = Block.out (argsV V) (fun b hd c n => Block.attK (Block.scK (argsV V) b hd n) (Block.zz (argsV V) 2 b hd c)) b c h v :=
  (r249 V b c h v).trans (Block.out_eq (argsV V) b c h v (mask_ref V b c h v H)).symm

/-- The reference's result at any index where the mask is set. -/
theorem ref_idx (i : S2x128x32x32.Idx) (H : maskV V i = 1#1) :
    fin (res_main_v156 V) (res_main_v183 V) (V (Proc.devRef .tc main_arg10)) (V (Proc.devRef .tc main_arg11)) i
      = Block.out (argsV V) (fun b hd c n => Block.attK (Block.scK (argsV V) b hd n) (Block.zz (argsV V) 2 b hd c)) (i 0) (i 1) (i 2) (i 3) := by
  have e : i = ix4 (i 0 : Fin 2) (i 1 : Fin 128) (i 2 : Fin 32) (i 3 : Fin 32) := by
    funext k
    match k with
    | ⟨0, _⟩ => rfl
    | ⟨1, _⟩ => rfl
    | ⟨2, _⟩ => rfl
    | ⟨3, _⟩ => rfl
  refine (congrArg _ e).trans ?_
  exact ref_at V _ _ _ _ ((congrArg _ e).symm.trans H)

/-- The reference runs; its result is `fin` of its last values and its arguments end unchanged. -/
theorem run_fin (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v249)
          = fin (res_main_v156 (launchContents m c)) (res_main_v183 (launchContents m c)) (launchContents m c (Proc.devRef .tc main_arg10)) (launchContents m c (Proc.devRef .tc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.Value.run m ρ

end Cert.ReferenceIdeal.Val

end

end
-- ==== Proof.Final.lean ====
/-
  The value claim: the kernel's result and the reference's agree where the mask is set.
-/
module

public import proofs.«01_k».proof.Defs
public import proofs.«01_k».proof.Proof.KRun
public import proofs.«01_k».proof.Proof.KVal
public import proofs.«01_k».proof.Proof.Compare

@[expose] public section

set_option maxRecDepth 16384

noncomputable section

namespace Cert.Final

open Idealize.ShloMosaic Idealize.SL.Sem

attribute [local irreducible] Block.top

/-- The kernel's result at any index. -/
theorem ker_idx (m : (ℓ : Loc Cert.KernelIdeal.nD Cert.KernelIdeal.τ Cert.KernelIdeal.sig) → Buf (Elt Ideal) ℓ) (g : Dev Cert.KernelIdeal.nD → PrngReg)
    (c : Dev Cert.KernelIdeal.nD) (i : (⟨4, ![2, 128, 32, 32]⟩ : Shape).Idx) :
    (Cert.KernelIdeal.Gen.W16 m g c (Proc.devRef .tc Cert.KernelIdeal.main_v55) : FVec Ideal ⟨4, ![2, 128, 32, 32]⟩ .f32) i
      = Block.out (Cert.KernelIdeal.Val.argsK m c) (Cert.KernelIdeal.Val.attKer (Cert.KernelIdeal.Val.argsK m c)) (i 0) (i 1) (i 2) (i 3) := by
  have e : i = ix4 (i 0 : Fin 2) (i 1 : Fin 128) (i 2 : Fin 32) (i 3 : Fin 32) := by
    funext k
    match k with
    | ⟨0, _⟩ => rfl
    | ⟨1, _⟩ => rfl
    | ⟨2, _⟩ => rfl
    | ⟨3, _⟩ => rfl
  refine (congrArg _ e).trans ?_
  exact Cert.KernelIdeal.Val.v55_at m g c _ _ _ _

/-- Equal arrays make equal arguments. -/
theorem args_eq (a b : Block.Args) (h0 : a.x = b.x) (h1 : a.g1 = b.g1) (h2 : a.b1 = b.b1) (h3 : a.wq = b.wq) (h4 : a.wd = b.wd) (h5 : a.tm = b.tm)
    (h6 : a.pw = b.pw) (h7 : a.g2 = b.g2) (h8 : a.b2 = b.b2) (h9 : a.fi = b.fi) (h10 : a.fd = b.fd) (h11 : a.fo = b.fo) : a = b := by
  cases a
  cases b
  simp only at h0 h1 h2 h3 h4 h5 h6 h7 h8 h9 h10 h11
  subst h0 h1 h2 h3 h4 h5 h6 h7 h8 h9 h10 h11
  rfl

/-- The mask of an argument list. -/
def maskA (a : Block.Args) : IVec ⟨4, ![2, 128, 32, 32]⟩ 1 :=
  Cert.On_separated.fn (F := Ideal) a.x a.g1 a.b1 a.wq a.wd a.tm a.pw a.g2 a.b2 a.fi a.fd a.fo

/-- The reference terminates, leaves its arguments as they were, and every counter at zero: it has no counters. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Val.run_fin m g)

/-- The kernel and the reference, run from memories that agree on the arguments, have equal results where the mask is set. -/
theorem algebraic : Cert.algebraic_KernelIdeal_ReferenceIdeal_on_separated (hKernelIdeal := Cert.KernelIdeal.Gen.facts)
    (hReferenceIdeal := Cert.ReferenceIdeal.Gen.facts) (hOn_separated := Cert.On_separated.Gen.facts) := by
  intro m g m' g' _ hm
  refine ⟨fun c => Cert.KernelIdeal.Gen.W16 m g c (Proc.devRef .tc Cert.KernelIdeal.main_v55), ?_, ?_⟩
  · refine (θ_run _ _ _).mono (fun r hr c => ?_) (Cert.KernelIdeal.Val.run_out m g)
    exact ⟨fun i _ => congrFun (hr c).1 i, (hr c).2⟩
  · refine (θ_run _ _ _).mono (fun r hr c => ?_) (Cert.ReferenceIdeal.Val.run_fin m' g')
    refine ⟨fun i hi => ?_, (hr c).2⟩
    have ea : Cert.ReferenceIdeal.Val.argsV (StableHlo.launchContents m' c) = Cert.KernelIdeal.Val.argsK m c := by
      obtain ⟨h0, h1, h2, h3, h4, h5, h6, h7, h8, h9, h10, h11⟩ := hm c
      exact args_eq _ _ h0 h1 h2 h3 h4 h5 h6 h7 h8 h9 h10 h11
    have hk : maskA (Cert.KernelIdeal.Val.argsK m c) i = 1#1 := hi
    rw [← ea] at hk
    refine (congrFun (hr c).1 i).trans ?_
    refine (Cert.ReferenceIdeal.Val.ref_idx (StableHlo.launchContents m' c) i hk).trans ?_
    rw [ea]
    exact (ker_idx m g c i).symm

end Cert.Final

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_separated
public import proofs.«01_k».proof.Proof.Final
public import Idealize.ShloMosaic.Adequacy
public import Idealize.ShloMosaic.Init

@[expose] public section

noncomputable section

namespace Cert.Proof

open Idealize.ShloMosaic Idealize.SL.Sem Cert.Kernel

/-- All claims of this certificate. -/
theorem claim : Cert.Claim := ⟨Cert.Kernel.Gen.facts, Cert.KernelIdeal.Gen.facts, Cert.ReferenceIdeal.Gen.facts, Cert.On_separated.Gen.facts,
  fun m ρ _ => Cert.Kernel.Gen.frame m ρ, fun m ρ _ => Cert.KernelIdeal.Gen.frame m ρ, Cert.Final.reference_frame, trivial, Cert.Final.algebraic⟩

end Cert.Proof

end
